-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4x4096x4096 : Shape := ⟨3, ![4, 4096, 4096]⟩
abbrev S64x4096 : Shape := ⟨2, ![64, 4096]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x4096x4096 .f32) (main_arg1 : FVec F S64x4096 .f32) (main_arg2 : FVec F S64x4096 .f32) (main_arg3 : FVec F S64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_cst_2 : FVec F S_ .f32 := constant S_ .f32 0x7F800000#32
  let main_v9 : FVec F S_ .f32 := Host.negf main_cst_2
  let main_v10 : FVec F S64 .f32 := broadcastInDim S64 ![] bcast_S_S64 main_v9
  let main_v11 : IVec S64 1 := cmpf .ogt main_arg3 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x4096x4096 : Shape := ⟨3, ![4, 4096, 4096]⟩
abbrev S64x4096 : Shape := ⟨2, ![64, 4096]⟩
abbrev S64 : Shape := ⟨1, ![64]⟩
abbrev S16384x4096 : Shape := ⟨2, ![16384, 4096]⟩
abbrev S128x4096 : Shape := ⟨2, ![128, 4096]⟩
abbrev S64x1 : Shape := ⟨2, ![64, 1]⟩
abbrev S64x16384 : Shape := ⟨2, ![64, 16384]⟩
abbrev S8x16384 : Shape := ⟨2, ![8, 16384]⟩
abbrev S1024x4096 : Shape := ⟨2, ![1024, 4096]⟩
abbrev S64x1024 : Shape := ⟨2, ![64, 1024]⟩
abbrev S8x1024 : Shape := ⟨2, ![8, 1024]⟩
abbrev S128x1024 : Shape := ⟨2, ![128, 1024]⟩
abbrev S1024 : Shape := ⟨1, ![1024]⟩
abbrev S1x1024 : Shape := ⟨2, ![1, 1024]⟩
abbrev S16384x64 : Shape := ⟨2, ![16384, 64]⟩
abbrev S4x4096x64 : Shape := ⟨3, ![4, 4096, 64]⟩
abbrev S16384x8 : Shape := ⟨2, ![16384, 8]⟩
abbrev S4x4096x8 : Shape := ⟨3, ![4, 4096, 8]⟩

abbrev nBuf : Space → Nat
  | .hbm => 13
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64x4096, .f32⟩
  | .hbm, ⟨3, _⟩ => ⟨S64, .f32⟩
  | .hbm, ⟨4, _⟩ => ⟨S16384x4096, .f32⟩
  | .hbm, ⟨5, _⟩ => ⟨S128x4096, .f32⟩
  | .hbm, ⟨6, _⟩ => ⟨S64x1, .f32⟩
  | .hbm, ⟨7, _⟩ => ⟨S64x16384, .f32⟩
  | .hbm, ⟨8, _⟩ => ⟨S8x16384, .i32⟩
  | .hbm, ⟨9, _⟩ => ⟨S16384x64, .f32⟩
  | .hbm, ⟨10, _⟩ => ⟨S4x4096x64, .f32⟩
  | .hbm, ⟨11, _⟩ => ⟨S16384x8, .i32⟩
  | .hbm, ⟨12, _⟩ => ⟨S4x4096x8, .i32⟩
  | .local _ .vmem, ⟨0, _⟩ => ⟨S1024x4096, .f32⟩
  | .local _ .vmem, ⟨1, _⟩ => ⟨S1024x4096, .f32⟩
  | .local _ .vmem, ⟨2, _⟩ => ⟨S128x4096, .f32⟩
  | .local _ .vmem, ⟨3, _⟩ => ⟨S64x1, .f32⟩
  | .local _ .vmem, ⟨4, _⟩ => ⟨S64x1024, .f32⟩
  | .local _ .vmem, ⟨5, _⟩ => ⟨S64x1024, .f32⟩
  | .local _ .vmem, ⟨6, _⟩ => ⟨S8x1024, .i32⟩
  | .local _ .vmem, ⟨7, _⟩ => ⟨S8x1024, .i32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x4096 : Shape := ⟨3, ![4, 4096, 4096]⟩
abbrev S64x4096 : Shape := ⟨2, ![64, 4096]⟩
abbrev S64 : Shape := ⟨1, ![64]⟩
abbrev S4096x64 : Shape := ⟨2, ![4096, 64]⟩
abbrev S4x4096x64 : Shape := ⟨3, ![4, 4096, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S1x1x64 : Shape := ⟨3, ![1, 1, 64]⟩
abbrev S4x4096x8 : Shape := ⟨3, ![4, 4096, 8]⟩
abbrev S16384x64 : Shape := ⟨2, ![16384, 64]⟩
abbrev S16384x8 : Shape := ⟨2, ![16384, 8]⟩
abbrev S16384 : Shape := ⟨1, ![16384]⟩
abbrev S16384x1 : Shape := ⟨2, ![16384, 1]⟩
abbrev S16384x8x1 : Shape := ⟨3, ![16384, 8, 1]⟩
abbrev S16384x8x2 : Shape := ⟨3, ![16384, 8, 2]⟩

abbrev nBuf : Space → Nat
  | .hbm => 349
  | .vmem => 0
  | .smem => 0
  | _ => 0

abbrev hbmTy0_0 (i : Nat) : BufTy := match i % 128 with
  | 0 => ⟨S4x4096x4096, .f32⟩
  | 1 => ⟨S64x4096, .f32⟩
  | 2 => ⟨S64x4096, .f32⟩
  | 3 => ⟨S64, .f32⟩
  | 4 => ⟨S4096x64, .f32⟩
  | 5 => ⟨S4x4096x64, .f32⟩
  | 6 => ⟨S4096x64, .f32⟩
  | 7 => ⟨S4x4096x64, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S_, .f32⟩
  | 22 => ⟨S1x1x1, .f32⟩
  | 23 => ⟨S1x1x1, .f32⟩
  | 24 => ⟨S1, .i32⟩
  | 25 => ⟨S_, .i32⟩
  | 26 => ⟨S1, .i32⟩
  | 27 => ⟨S_, .i32⟩
  | 28 => ⟨S4x4096x64, .i64⟩
  | 29 => ⟨S4x4096x64, .i64⟩
  | 30 => ⟨S4x4096x64, .i64⟩
  | 31 => ⟨S_, .i64⟩
  | 32 => ⟨S4x4096x64, .i64⟩
  | 33 => ⟨S4x4096x64, .i64⟩
  | 34 => ⟨S_, .i64⟩
  | 35 => ⟨S4x4096x64, .i64⟩
  | 36 => ⟨S4x4096x64, .i64⟩
  | 37 => ⟨S_, .i64⟩
  | 38 => ⟨S4x4096x64, .i64⟩
  | 39 => ⟨S4x4096x64, .i64⟩
  | 40 => ⟨S4x4096x64, .i64⟩
  | 41 => ⟨S4x4096x64, .i64⟩
  | 42 => ⟨S_, .i64⟩
  | 43 => ⟨S4x4096x64, .i64⟩
  | 44 => ⟨S4x4096x64, .i64⟩
  | 45 => ⟨S4x4096x64, .i32⟩
  | 46 => ⟨S4x4096x64, .i32⟩
  | 47 => ⟨S_, .i32⟩
  | 48 => ⟨S_, .i32⟩
  | 49 => ⟨S_, .i32⟩
  | 50 => ⟨S4x4096x64, .i32⟩
  | 51 => ⟨S4x4096x64, .i32⟩
  | 52 => ⟨S4x4096x64, .i32⟩
  | 53 => ⟨S4x4096x64, .i32⟩
  | 54 => ⟨S4x4096x64, .i32⟩
  | 55 => ⟨S_, .i32⟩
  | 56 => ⟨S4x4096x64, .i32⟩
  | 57 => ⟨S4x4096x64, .i32⟩
  | 58 => ⟨S_, .i32⟩
  | 59 => ⟨S4x4096x64, .i32⟩
  | 60 => ⟨S4x4096x64, .i32⟩
  | 61 => ⟨S4x4096x64, .i32⟩
  | 62 => ⟨S4x4096x64, .i32⟩
  | 63 => ⟨S4x4096x64, .i32⟩
  | 64 => ⟨S_, .i32⟩
  | 65 => ⟨S4x4096x64, .i32⟩
  | 66 => ⟨S4x4096x64, .i32⟩
  | 67 => ⟨S_, .i32⟩
  | 68 => ⟨S4x4096x64, .i32⟩
  | 69 => ⟨S4x4096x64, .i32⟩
  | 70 => ⟨S4x4096x64, .i32⟩
  | 71 => ⟨S4x4096x64, .i32⟩
  | 72 => ⟨S4x4096x64, .i32⟩
  | 73 => ⟨S_, .i32⟩
  | 74 => ⟨S4x4096x64, .i32⟩
  | 75 => ⟨S4x4096x64, .i32⟩
  | 76 => ⟨S_, .i32⟩
  | 77 => ⟨S4x4096x64, .i32⟩
  | 78 => ⟨S4x4096x64, .i32⟩
  | 79 => ⟨S4x4096x64, .i32⟩
  | 80 => ⟨S4x4096x64, .i32⟩
  | 81 => ⟨S4x4096x64, .i32⟩
  | 82 => ⟨S_, .i32⟩
  | 83 => ⟨S4x4096x64, .i32⟩
  | 84 => ⟨S4x4096x64, .i32⟩
  | 85 => ⟨S_, .i32⟩
  | 86 => ⟨S4x4096x64, .i32⟩
  | 87 => ⟨S4x4096x64, .i32⟩
  | 88 => ⟨S4x4096x64, .i32⟩
  | 89 => ⟨S4x4096x64, .i32⟩
  | 90 => ⟨S4x4096x64, .i32⟩
  | 91 => ⟨S4x4096x64, .i32⟩
  | 92 => ⟨S4x4096x64, .i32⟩
  | 93 => ⟨S4x4096x64, .i32⟩
  | 94 => ⟨S_, .i32⟩
  | 95 => ⟨S4x4096x64, .i32⟩
  | 96 => ⟨S4x4096x64, .i32⟩
  | 97 => ⟨S4x4096x64, .i32⟩
  | 98 => ⟨S_, .i32⟩
  | 99 => ⟨S4x4096x64, .i32⟩
  | 100 => ⟨S4x4096x64, .i32⟩
  | 101 => ⟨S_, .i32⟩
  | 102 => ⟨S4x4096x64, .i32⟩
  | 103 => ⟨S4x4096x64, .i32⟩
  | 104 => ⟨S4x4096x64, .i32⟩
  | 105 => ⟨S4x4096x64, .i32⟩
  | 106 => ⟨S4x4096x64, .i32⟩
  | 107 => ⟨S_, .i32⟩
  | 108 => ⟨S4x4096x64, .i32⟩
  | 109 => ⟨S4x4096x64, .i32⟩
  | 110 => ⟨S_, .i32⟩
  | 111 => ⟨S4x4096x64, .i32⟩
  | 112 => ⟨S4x4096x64, .i32⟩
  | 113 => ⟨S4x4096x64, .i32⟩
  | 114 => ⟨S4x4096x64, .i32⟩
  | 115 => ⟨S4x4096x64, .i32⟩
  | 116 => ⟨S_, .i32⟩
  | 117 => ⟨S4x4096x64, .i32⟩
  | 118 => ⟨S4x4096x64, .i32⟩
  | 119 => ⟨S_, .i32⟩
  | 120 => ⟨S4x4096x64, .i32⟩
  | 121 => ⟨S4x4096x64, .i32⟩
  | 122 => ⟨S4x4096x64, .i32⟩
  | 123 => ⟨S4x4096x64, .i32⟩
  | 124 => ⟨S4x4096x64, .i32⟩
  | 125 => ⟨S_, .i32⟩
  | 126 => ⟨S4x4096x64, .i32⟩
  | 127 => ⟨S4x4096x64, .i32⟩
  | _ => ⟨S4x4096x4096, .f32⟩

abbrev hbmTy0_1 (i : Nat) : BufTy := match i % 128 with
  | 0 => ⟨S_, .i32⟩
  | 1 => ⟨S4x4096x64, .i32⟩
  | 2 => ⟨S4x4096x64, .i32⟩
  | 3 => ⟨S4x4096x64, .i32⟩
  | 4 => ⟨S4x4096x64, .i32⟩
  | 5 => ⟨S4x4096x64, .i32⟩
  | 6 => ⟨S4x4096x64, .i32⟩
  | 7 => ⟨S4x4096x64, .i32⟩
  | 8 => ⟨S4x4096x64, .i32⟩
  | 9 => ⟨S_, .i32⟩
  | 10 => ⟨S4x4096x64, .i32⟩
  | 11 => ⟨S4x4096x64, .i32⟩
  | 12 => ⟨S4x4096x64, .i32⟩
  | 13 => ⟨S_, .i32⟩
  | 14 => ⟨S4x4096x64, .i32⟩
  | 15 => ⟨S4x4096x64, .i32⟩
  | 16 => ⟨S_, .i32⟩
  | 17 => ⟨S4x4096x64, .i32⟩
  | 18 => ⟨S4x4096x64, .i32⟩
  | 19 => ⟨S4x4096x64, .i32⟩
  | 20 => ⟨S4x4096x64, .i32⟩
  | 21 => ⟨S4x4096x64, .i32⟩
  | 22 => ⟨S_, .i32⟩
  | 23 => ⟨S4x4096x64, .i32⟩
  | 24 => ⟨S4x4096x64, .i32⟩
  | 25 => ⟨S_, .i32⟩
  | 26 => ⟨S4x4096x64, .i32⟩
  | 27 => ⟨S4x4096x64, .i32⟩
  | 28 => ⟨S4x4096x64, .i32⟩
  | 29 => ⟨S4x4096x64, .i32⟩
  | 30 => ⟨S4x4096x64, .i32⟩
  | 31 => ⟨S_, .i32⟩
  | 32 => ⟨S4x4096x64, .i32⟩
  | 33 => ⟨S4x4096x64, .i32⟩
  | 34 => ⟨S_, .i32⟩
  | 35 => ⟨S4x4096x64, .i32⟩
  | 36 => ⟨S4x4096x64, .i32⟩
  | 37 => ⟨S4x4096x64, .i32⟩
  | 38 => ⟨S4x4096x64, .i32⟩
  | 39 => ⟨S4x4096x64, .i32⟩
  | 40 => ⟨S_, .i32⟩
  | 41 => ⟨S4x4096x64, .i32⟩
  | 42 => ⟨S4x4096x64, .i32⟩
  | 43 => ⟨S_, .i32⟩
  | 44 => ⟨S4x4096x64, .i32⟩
  | 45 => ⟨S4x4096x64, .i32⟩
  | 46 => ⟨S4x4096x64, .i32⟩
  | 47 => ⟨S4x4096x64, .i32⟩
  | 48 => ⟨S4x4096x64, .i32⟩
  | 49 => ⟨S4x4096x64, .i32⟩
  | 50 => ⟨S4x4096x64, .i32⟩
  | 51 => ⟨S4x4096x64, .i32⟩
  | 52 => ⟨S_, .i32⟩
  | 53 => ⟨S4x4096x64, .i32⟩
  | 54 => ⟨S4x4096x64, .i32⟩
  | 55 => ⟨S4x4096x64, .i32⟩
  | 56 => ⟨S_, .i32⟩
  | 57 => ⟨S4x4096x64, .i32⟩
  | 58 => ⟨S4x4096x64, .i32⟩
  | 59 => ⟨S_, .i32⟩
  | 60 => ⟨S4x4096x64, .i32⟩
  | 61 => ⟨S4x4096x64, .i32⟩
  | 62 => ⟨S4x4096x64, .i32⟩
  | 63 => ⟨S4x4096x64, .i32⟩
  | 64 => ⟨S4x4096x64, .i32⟩
  | 65 => ⟨S_, .i32⟩
  | 66 => ⟨S4x4096x64, .i32⟩
  | 67 => ⟨S4x4096x64, .i32⟩
  | 68 => ⟨S_, .i32⟩
  | 69 => ⟨S4x4096x64, .i32⟩
  | 70 => ⟨S4x4096x64, .i32⟩
  | 71 => ⟨S4x4096x64, .i32⟩
  | 72 => ⟨S4x4096x64, .i32⟩
  | 73 => ⟨S4x4096x64, .i32⟩
  | 74 => ⟨S_, .i32⟩
  | 75 => ⟨S4x4096x64, .i32⟩
  | 76 => ⟨S4x4096x64, .i32⟩
  | 77 => ⟨S_, .i32⟩
  | 78 => ⟨S4x4096x64, .i32⟩
  | 79 => ⟨S4x4096x64, .i32⟩
  | 80 => ⟨S4x4096x64, .i32⟩
  | 81 => ⟨S4x4096x64, .i32⟩
  | 82 => ⟨S4x4096x64, .i32⟩
  | 83 => ⟨S_, .i32⟩
  | 84 => ⟨S4x4096x64, .i32⟩
  | 85 => ⟨S4x4096x64, .i32⟩
  | 86 => ⟨S_, .i32⟩
  | 87 => ⟨S4x4096x64, .i32⟩
  | 88 => ⟨S4x4096x64, .i32⟩
  | 89 => ⟨S4x4096x64, .i32⟩
  | 90 => ⟨S4x4096x64, .i32⟩
  | 91 => ⟨S4x4096x64, .i32⟩
  | 92 => ⟨S4x4096x64, .i32⟩
  | 93 => ⟨S4x4096x64, .i32⟩
  | 94 => ⟨S4x4096x64, .i32⟩
  | 95 => ⟨S_, .i32⟩
  | 96 => ⟨S4x4096x64, .i32⟩
  | 97 => ⟨S4x4096x64, .i32⟩
  | 98 => ⟨S4x4096x64, .i32⟩
  | 99 => ⟨S_, .i32⟩
  | 100 => ⟨S4x4096x64, .i32⟩
  | 101 => ⟨S4x4096x64, .i32⟩
  | 102 => ⟨S_, .i32⟩
  | 103 => ⟨S4x4096x64, .i32⟩
  | 104 => ⟨S4x4096x64, .i32⟩
  | 105 => ⟨S4x4096x64, .i32⟩
  | 106 => ⟨S4x4096x64, .i32⟩
  | 107 => ⟨S4x4096x64, .i32⟩
  | 108 => ⟨S_, .i32⟩
  | 109 => ⟨S4x4096x64, .i32⟩
  | 110 => ⟨S4x4096x64, .i32⟩
  | 111 => ⟨S_, .i32⟩
  | 112 => ⟨S4x4096x64, .i32⟩
  | 113 => ⟨S4x4096x64, .i32⟩
  | 114 => ⟨S4x4096x64, .i32⟩
  | 115 => ⟨S4x4096x64, .i32⟩
  | 116 => ⟨S4x4096x64, .i32⟩
  | 117 => ⟨S_, .i32⟩
  | 118 => ⟨S4x4096x64, .i32⟩
  | 119 => ⟨S4x4096x64, .i32⟩
  | 120 => ⟨S_, .i32⟩
  | 121 => ⟨S4x4096x64, .i32⟩
  | 122 => ⟨S4x4096x64, .i32⟩
  | 123 => ⟨S4x4096x64, .i32⟩
  | 124 => ⟨S4x4096x64, .i32⟩
  | 125 => ⟨S4x4096x64, .i32⟩
  | 126 => ⟨S_, .i32⟩
  | 127 => ⟨S4x4096x64, .i32⟩
  | _ => ⟨S4x4096x4096, .f32⟩

abbrev hbmTy0_2 (i : Nat) : BufTy := match i % 128 with
  | 0 => ⟨S4x4096x64, .i32⟩
  | 1 => ⟨S_, .i32⟩
  | 2 => ⟨S4x4096x64, .i32⟩
  | 3 => ⟨S4x4096x64, .i32⟩
  | 4 => ⟨S4x4096x64, .i32⟩
  | 5 => ⟨S4x4096x64, .i32⟩
  | 6 => ⟨S4x4096x64, .i32⟩
  | 7 => ⟨S4x4096x64, .i32⟩
  | 8 => ⟨S4x4096x64, .i32⟩
  | 9 => ⟨S4x4096x64, .i32⟩
  | 10 => ⟨S_, .i32⟩
  | 11 => ⟨S4x4096x64, .i32⟩
  | 12 => ⟨S4x4096x64, .i32⟩
  | 13 => ⟨S4x4096x64, .i32⟩
  | 14 => ⟨S_, .i32⟩
  | 15 => ⟨S4x4096x64, .i32⟩
  | 16 => ⟨S4x4096x64, .i32⟩
  | 17 => ⟨S_, .i32⟩
  | 18 => ⟨S4x4096x64, .i32⟩
  | 19 => ⟨S4x4096x64, .i32⟩
  | 20 => ⟨S4x4096x64, .f32⟩
  | 21 => ⟨S_, .f32⟩
  | 22 => ⟨S4x4096x64, .f32⟩
  | 23 => ⟨S4x4096x64, .f32⟩
  | 24 => ⟨S1x1x1, .f32⟩
  | 25 => ⟨S4x4096x64, .f32⟩
  | 26 => ⟨S4x4096x64, .f32⟩
  | 27 => ⟨S4x4096x64, .f32⟩
  | 28 => ⟨S4x4096x64, .f32⟩
  | 29 => ⟨S4x4096x64, .f32⟩
  | 30 => ⟨S4x4096x64, .f32⟩
  | 31 => ⟨S_, .f32⟩
  | 32 => ⟨S4x4096x64, .f32⟩
  | 33 => ⟨S4x4096x64, .f32⟩
  | 34 => ⟨S4x4096x64, .f32⟩
  | 35 => ⟨S4x4096x64, .f32⟩
  | 36 => ⟨S4x4096x64, .i1⟩
  | 37 => ⟨S4x4096x64, .f32⟩
  | 38 => ⟨S4x4096x64, .f32⟩
  | 39 => ⟨S4x4096x64, .f32⟩
  | 40 => ⟨S4x4096x64, .f32⟩
  | 41 => ⟨S4x4096x64, .f32⟩
  | 42 => ⟨S4x4096x64, .f32⟩
  | 43 => ⟨S4x4096x64, .f32⟩
  | 44 => ⟨S4x4096x64, .f32⟩
  | 45 => ⟨S4x4096x64, .f32⟩
  | 46 => ⟨S4x4096x64, .f32⟩
  | 47 => ⟨S1x1x64, .f32⟩
  | 48 => ⟨S4x4096x64, .f32⟩
  | 49 => ⟨S4x4096x64, .f32⟩
  | 50 => ⟨S4x4096x8, .f32⟩
  | 51 => ⟨S4x4096x8, .i32⟩
  | 52 => ⟨S16384x64, .f32⟩
  | 53 => ⟨S16384x8, .f32⟩
  | 54 => ⟨S16384x8, .i32⟩
  | 55 => ⟨S16384, .i32⟩
  | 56 => ⟨S16384x1, .i32⟩
  | 57 => ⟨S_, .f32⟩
  | 58 => ⟨S16384x64, .f32⟩
  | 59 => ⟨S_, .i32⟩
  | 60 => ⟨S16384x1, .i32⟩
  | 61 => ⟨S16384x1, .i1⟩
  | 62 => ⟨S_, .i32⟩
  | 63 => ⟨S16384x1, .i32⟩
  | 64 => ⟨S16384x1, .i32⟩
  | 65 => ⟨S16384x1, .i32⟩
  | 66 => ⟨S_, .i32⟩
  | 67 => ⟨S16384x8, .i32⟩
  | 68 => ⟨S16384x8, .i1⟩
  | 69 => ⟨S_, .i32⟩
  | 70 => ⟨S16384x8, .i32⟩
  | 71 => ⟨S16384x8, .i32⟩
  | 72 => ⟨S16384x8, .i32⟩
  | 73 => ⟨S16384x8, .i32⟩
  | 74 => ⟨S16384x8x1, .i32⟩
  | 75 => ⟨S16384x8x1, .i32⟩
  | 76 => ⟨S16384x8x2, .i32⟩
  | 77 => ⟨S16384x64, .f32⟩
  | 78 => ⟨S_, .f32⟩
  | 79 => ⟨S16384, .f32⟩
  | 80 => ⟨S_, .f32⟩
  | 81 => ⟨S16384, .f32⟩
  | 82 => ⟨S16384, .f32⟩
  | 83 => ⟨S16384x1, .f32⟩
  | 84 => ⟨S16384x64, .f32⟩
  | 85 => ⟨S16384x64, .f32⟩
  | 86 => ⟨S16384x64, .f32⟩
  | 87 => ⟨S_, .f32⟩
  | 88 => ⟨S16384, .f32⟩
  | 89 => ⟨S16384x1, .f32⟩
  | 90 => ⟨S16384x64, .f32⟩
  | 91 => ⟨S16384x64, .f32⟩
  | 92 => ⟨S4x4096x64, .f32⟩
  | _ => ⟨S4x4096x4096, .f32⟩

abbrev hbmTy (i : Nat) : BufTy := match i / 128 with
  | 0 => hbmTy0_0 i
  | 1 => hbmTy0_1 i
  | 2 => hbmTy0_2 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c : Ref sig .tc := ⟨.hbm, 31, rfl⟩
abbrev main_call0_v11 : Ref sig .tc := ⟨.hbm, 32, rfl⟩
abbrev main_call0_v12 : Ref sig .tc := ⟨.hbm, 33, rfl⟩
abbrev main_call0_c_0 : Ref sig .tc := ⟨.hbm, 34, rfl⟩
abbrev main_call0_v13 : Ref sig .tc := ⟨.hbm, 35, rfl⟩
abbrev main_call0_v14 : Ref sig .tc := ⟨.hbm, 36, rfl⟩
abbrev main_call0_c_1 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_c_2 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_call0_call0_v0 : Ref sig .tc := ⟨.hbm, 47, rfl⟩
abbrev main_call0_call0_c : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_c_0 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_c_1 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_v12 : Ref sig .tc := ⟨.hbm, 62, rfl⟩
abbrev main_call0_call0_v13 : Ref sig .tc := ⟨.hbm, 63, rfl⟩
abbrev main_call0_call0_c_2 : Ref sig .tc := ⟨.hbm, 64, rfl⟩
abbrev main_call0_call0_v14 : Ref sig .tc := ⟨.hbm, 65, rfl⟩
abbrev main_call0_call0_v15 : Ref sig .tc := ⟨.hbm, 66, rfl⟩
abbrev main_call0_call0_c_3 : Ref sig .tc := ⟨.hbm, 67, rfl⟩
abbrev main_call0_call0_v16 : Ref sig .tc := ⟨.hbm, 68, rfl⟩
abbrev main_call0_call0_v17 : Ref sig .tc := ⟨.hbm, 69, rfl⟩
abbrev main_call0_call0_v18 : Ref sig .tc := ⟨.hbm, 70, rfl⟩
abbrev main_call0_call0_v19 : Ref sig .tc := ⟨.hbm, 71, rfl⟩
abbrev main_call0_call0_v20 : Ref sig .tc := ⟨.hbm, 72, rfl⟩
abbrev main_call0_call0_c_4 : Ref sig .tc := ⟨.hbm, 73, rfl⟩
abbrev main_call0_call0_v21 : Ref sig .tc := ⟨.hbm, 74, rfl⟩
abbrev main_call0_call0_v22 : Ref sig .tc := ⟨.hbm, 75, rfl⟩
abbrev main_call0_call0_c_5 : Ref sig .tc := ⟨.hbm, 76, rfl⟩
abbrev main_call0_call0_v23 : Ref sig .tc := ⟨.hbm, 77, rfl⟩
abbrev main_call0_call0_v24 : Ref sig .tc := ⟨.hbm, 78, rfl⟩
abbrev main_call0_call0_v25 : Ref sig .tc := ⟨.hbm, 79, rfl⟩
abbrev main_call0_call0_v26 : Ref sig .tc := ⟨.hbm, 80, rfl⟩
abbrev main_call0_call0_v27 : Ref sig .tc := ⟨.hbm, 81, rfl⟩
abbrev main_call0_call0_c_6 : Ref sig .tc := ⟨.hbm, 82, rfl⟩
abbrev main_call0_call0_v28 : Ref sig .tc := ⟨.hbm, 83, rfl⟩
abbrev main_call0_call0_v29 : Ref sig .tc := ⟨.hbm, 84, rfl⟩
abbrev main_call0_call0_c_7 : Ref sig .tc := ⟨.hbm, 85, rfl⟩
abbrev main_call0_call0_v30 : Ref sig .tc := ⟨.hbm, 86, rfl⟩
abbrev main_call0_call0_v31 : Ref sig .tc := ⟨.hbm, 87, rfl⟩
abbrev main_call0_call0_v32 : Ref sig .tc := ⟨.hbm, 88, rfl⟩
abbrev main_call0_call0_v33 : Ref sig .tc := ⟨.hbm, 89, rfl⟩
abbrev main_call0_call0_v34 : Ref sig .tc := ⟨.hbm, 90, rfl⟩
abbrev main_call0_call0_v35 : Ref sig .tc := ⟨.hbm, 91, rfl⟩
abbrev main_call0_call0_v36 : Ref sig .tc := ⟨.hbm, 92, rfl⟩
abbrev main_call0_call0_v37 : Ref sig .tc := ⟨.hbm, 93, rfl⟩
abbrev main_call0_call0_c_8 : Ref sig .tc := ⟨.hbm, 94, rfl⟩
abbrev main_call0_call0_v38 : Ref sig .tc := ⟨.hbm, 95, rfl⟩
abbrev main_call0_call0_v39 : Ref sig .tc := ⟨.hbm, 96, rfl⟩
abbrev main_call0_call0_v40 : Ref sig .tc := ⟨.hbm, 97, rfl⟩
abbrev main_call0_call0_c_9 : Ref sig .tc := ⟨.hbm, 98, rfl⟩
abbrev main_call0_call0_v41 : Ref sig .tc := ⟨.hbm, 99, rfl⟩
abbrev main_call0_call0_v42 : Ref sig .tc := ⟨.hbm, 100, rfl⟩
abbrev main_call0_call0_c_10 : Ref sig .tc := ⟨.hbm, 101, rfl⟩
abbrev main_call0_call0_v43 : Ref sig .tc := ⟨.hbm, 102, rfl⟩
abbrev main_call0_call0_v44 : Ref sig .tc := ⟨.hbm, 103, rfl⟩
abbrev main_call0_call0_v45 : Ref sig .tc := ⟨.hbm, 104, rfl⟩
abbrev main_call0_call0_v46 : Ref sig .tc := ⟨.hbm, 105, rfl⟩
abbrev main_call0_call0_v47 : Ref sig .tc := ⟨.hbm, 106, rfl⟩
abbrev main_call0_call0_c_11 : Ref sig .tc := ⟨.hbm, 107, rfl⟩
abbrev main_call0_call0_v48 : Ref sig .tc := ⟨.hbm, 108, rfl⟩
abbrev main_call0_call0_v49 : Ref sig .tc := ⟨.hbm, 109, rfl⟩
abbrev main_call0_call0_c_12 : Ref sig .tc := ⟨.hbm, 110, rfl⟩
abbrev main_call0_call0_v50 : Ref sig .tc := ⟨.hbm, 111, rfl⟩
abbrev main_call0_call0_v51 : Ref sig .tc := ⟨.hbm, 112, rfl⟩
abbrev main_call0_call0_v52 : Ref sig .tc := ⟨.hbm, 113, rfl⟩
abbrev main_call0_call0_v53 : Ref sig .tc := ⟨.hbm, 114, rfl⟩
abbrev main_call0_call0_v54 : Ref sig .tc := ⟨.hbm, 115, rfl⟩
abbrev main_call0_call0_c_13 : Ref sig .tc := ⟨.hbm, 116, rfl⟩
abbrev main_call0_call0_v55 : Ref sig .tc := ⟨.hbm, 117, rfl⟩
abbrev main_call0_call0_v56 : Ref sig .tc := ⟨.hbm, 118, rfl⟩
abbrev main_call0_call0_c_14 : Ref sig .tc := ⟨.hbm, 119, rfl⟩
abbrev main_call0_call0_v57 : Ref sig .tc := ⟨.hbm, 120, rfl⟩
abbrev main_call0_call0_v58 : Ref sig .tc := ⟨.hbm, 121, rfl⟩
abbrev main_call0_call0_v59 : Ref sig .tc := ⟨.hbm, 122, rfl⟩
abbrev main_call0_call0_v60 : Ref sig .tc := ⟨.hbm, 123, rfl⟩
abbrev main_call0_call0_v61 : Ref sig .tc := ⟨.hbm, 124, rfl⟩
abbrev main_call0_call0_c_15 : Ref sig .tc := ⟨.hbm, 125, rfl⟩
abbrev main_call0_call0_v62 : Ref sig .tc := ⟨.hbm, 126, rfl⟩
abbrev main_call0_call0_v63 : Ref sig .tc := ⟨.hbm, 127, rfl⟩
abbrev main_call0_call0_c_16 : Ref sig .tc := ⟨.hbm, 128, rfl⟩
abbrev main_call0_call0_v64 : Ref sig .tc := ⟨.hbm, 129, rfl⟩
abbrev main_call0_call0_v65 : Ref sig .tc := ⟨.hbm, 130, rfl⟩
abbrev main_call0_call0_v66 : Ref sig .tc := ⟨.hbm, 131, rfl⟩
abbrev main_call0_call0_v67 : Ref sig .tc := ⟨.hbm, 132, rfl⟩
abbrev main_call0_call0_v68 : Ref sig .tc := ⟨.hbm, 133, rfl⟩
abbrev main_call0_call0_v69 : Ref sig .tc := ⟨.hbm, 134, rfl⟩
abbrev main_call0_call0_v70 : Ref sig .tc := ⟨.hbm, 135, rfl⟩
abbrev main_call0_call0_v71 : Ref sig .tc := ⟨.hbm, 136, rfl⟩
abbrev main_call0_call0_c_17 : Ref sig .tc := ⟨.hbm, 137, rfl⟩
abbrev main_call0_call0_v72 : Ref sig .tc := ⟨.hbm, 138, rfl⟩
abbrev main_call0_call0_v73 : Ref sig .tc := ⟨.hbm, 139, rfl⟩
abbrev main_call0_call0_v74 : Ref sig .tc := ⟨.hbm, 140, rfl⟩
abbrev main_call0_call0_c_18 : Ref sig .tc := ⟨.hbm, 141, rfl⟩
abbrev main_call0_call0_v75 : Ref sig .tc := ⟨.hbm, 142, rfl⟩
abbrev main_call0_call0_v76 : Ref sig .tc := ⟨.hbm, 143, rfl⟩
abbrev main_call0_call0_c_19 : Ref sig .tc := ⟨.hbm, 144, rfl⟩
abbrev main_call0_call0_v77 : Ref sig .tc := ⟨.hbm, 145, rfl⟩
abbrev main_call0_call0_v78 : Ref sig .tc := ⟨.hbm, 146, rfl⟩
abbrev main_call0_call0_v79 : Ref sig .tc := ⟨.hbm, 147, rfl⟩
abbrev main_call0_call0_v80 : Ref sig .tc := ⟨.hbm, 148, rfl⟩
abbrev main_call0_call0_v81 : Ref sig .tc := ⟨.hbm, 149, rfl⟩
abbrev main_call0_call0_c_20 : Ref sig .tc := ⟨.hbm, 150, rfl⟩
abbrev main_call0_call0_v82 : Ref sig .tc := ⟨.hbm, 151, rfl⟩
abbrev main_call0_call0_v83 : Ref sig .tc := ⟨.hbm, 152, rfl⟩
abbrev main_call0_call0_c_21 : Ref sig .tc := ⟨.hbm, 153, rfl⟩
abbrev main_call0_call0_v84 : Ref sig .tc := ⟨.hbm, 154, rfl⟩
abbrev main_call0_call0_v85 : Ref sig .tc := ⟨.hbm, 155, rfl⟩
abbrev main_call0_call0_v86 : Ref sig .tc := ⟨.hbm, 156, rfl⟩
abbrev main_call0_call0_v87 : Ref sig .tc := ⟨.hbm, 157, rfl⟩
abbrev main_call0_call0_v88 : Ref sig .tc := ⟨.hbm, 158, rfl⟩
abbrev main_call0_call0_c_22 : Ref sig .tc := ⟨.hbm, 159, rfl⟩
abbrev main_call0_call0_v89 : Ref sig .tc := ⟨.hbm, 160, rfl⟩
abbrev main_call0_call0_v90 : Ref sig .tc := ⟨.hbm, 161, rfl⟩
abbrev main_call0_call0_c_23 : Ref sig .tc := ⟨.hbm, 162, rfl⟩
abbrev main_call0_call0_v91 : Ref sig .tc := ⟨.hbm, 163, rfl⟩
abbrev main_call0_call0_v92 : Ref sig .tc := ⟨.hbm, 164, rfl⟩
abbrev main_call0_call0_v93 : Ref sig .tc := ⟨.hbm, 165, rfl⟩
abbrev main_call0_call0_v94 : Ref sig .tc := ⟨.hbm, 166, rfl⟩
abbrev main_call0_call0_v95 : Ref sig .tc := ⟨.hbm, 167, rfl⟩
abbrev main_call0_call0_c_24 : Ref sig .tc := ⟨.hbm, 168, rfl⟩
abbrev main_call0_call0_v96 : Ref sig .tc := ⟨.hbm, 169, rfl⟩
abbrev main_call0_call0_v97 : Ref sig .tc := ⟨.hbm, 170, rfl⟩
abbrev main_call0_call0_c_25 : Ref sig .tc := ⟨.hbm, 171, rfl⟩
abbrev main_call0_call0_v98 : Ref sig .tc := ⟨.hbm, 172, rfl⟩
abbrev main_call0_call0_v99 : Ref sig .tc := ⟨.hbm, 173, rfl⟩
abbrev main_call0_call0_v100 : Ref sig .tc := ⟨.hbm, 174, rfl⟩
abbrev main_call0_call0_v101 : Ref sig .tc := ⟨.hbm, 175, rfl⟩
abbrev main_call0_call0_v102 : Ref sig .tc := ⟨.hbm, 176, rfl⟩
abbrev main_call0_call0_v103 : Ref sig .tc := ⟨.hbm, 177, rfl⟩
abbrev main_call0_call0_v104 : Ref sig .tc := ⟨.hbm, 178, rfl⟩
abbrev main_call0_call0_v105 : Ref sig .tc := ⟨.hbm, 179, rfl⟩
abbrev main_call0_call0_c_26 : Ref sig .tc := ⟨.hbm, 180, rfl⟩
abbrev main_call0_call0_v106 : Ref sig .tc := ⟨.hbm, 181, rfl⟩
abbrev main_call0_call0_v107 : Ref sig .tc := ⟨.hbm, 182, rfl⟩
abbrev main_call0_call0_v108 : Ref sig .tc := ⟨.hbm, 183, rfl⟩
abbrev main_call0_call0_c_27 : Ref sig .tc := ⟨.hbm, 184, rfl⟩
abbrev main_call0_call0_v109 : Ref sig .tc := ⟨.hbm, 185, rfl⟩
abbrev main_call0_call0_v110 : Ref sig .tc := ⟨.hbm, 186, rfl⟩
abbrev main_call0_call0_c_28 : Ref sig .tc := ⟨.hbm, 187, rfl⟩
abbrev main_call0_call0_v111 : Ref sig .tc := ⟨.hbm, 188, rfl⟩
abbrev main_call0_call0_v112 : Ref sig .tc := ⟨.hbm, 189, rfl⟩
abbrev main_call0_call0_v113 : Ref sig .tc := ⟨.hbm, 190, rfl⟩
abbrev main_call0_call0_v114 : Ref sig .tc := ⟨.hbm, 191, rfl⟩
abbrev main_call0_call0_v115 : Ref sig .tc := ⟨.hbm, 192, rfl⟩
abbrev main_call0_call0_c_29 : Ref sig .tc := ⟨.hbm, 193, rfl⟩
abbrev main_call0_call0_v116 : Ref sig .tc := ⟨.hbm, 194, rfl⟩
abbrev main_call0_call0_v117 : Ref sig .tc := ⟨.hbm, 195, rfl⟩
abbrev main_call0_call0_c_30 : Ref sig .tc := ⟨.hbm, 196, rfl⟩
abbrev main_call0_call0_v118 : Ref sig .tc := ⟨.hbm, 197, rfl⟩
abbrev main_call0_call0_v119 : Ref sig .tc := ⟨.hbm, 198, rfl⟩
abbrev main_call0_call0_v120 : Ref sig .tc := ⟨.hbm, 199, rfl⟩
abbrev main_call0_call0_v121 : Ref sig .tc := ⟨.hbm, 200, rfl⟩
abbrev main_call0_call0_v122 : Ref sig .tc := ⟨.hbm, 201, rfl⟩
abbrev main_call0_call0_c_31 : Ref sig .tc := ⟨.hbm, 202, rfl⟩
abbrev main_call0_call0_v123 : Ref sig .tc := ⟨.hbm, 203, rfl⟩
abbrev main_call0_call0_v124 : Ref sig .tc := ⟨.hbm, 204, rfl⟩
abbrev main_call0_call0_c_32 : Ref sig .tc := ⟨.hbm, 205, rfl⟩
abbrev main_call0_call0_v125 : Ref sig .tc := ⟨.hbm, 206, rfl⟩
abbrev main_call0_call0_v126 : Ref sig .tc := ⟨.hbm, 207, rfl⟩
abbrev main_call0_call0_v127 : Ref sig .tc := ⟨.hbm, 208, rfl⟩
abbrev main_call0_call0_v128 : Ref sig .tc := ⟨.hbm, 209, rfl⟩
abbrev main_call0_call0_v129 : Ref sig .tc := ⟨.hbm, 210, rfl⟩
abbrev main_call0_call0_c_33 : Ref sig .tc := ⟨.hbm, 211, rfl⟩
abbrev main_call0_call0_v130 : Ref sig .tc := ⟨.hbm, 212, rfl⟩
abbrev main_call0_call0_v131 : Ref sig .tc := ⟨.hbm, 213, rfl⟩
abbrev main_call0_call0_c_34 : Ref sig .tc := ⟨.hbm, 214, rfl⟩
abbrev main_call0_call0_v132 : Ref sig .tc := ⟨.hbm, 215, rfl⟩
abbrev main_call0_call0_v133 : Ref sig .tc := ⟨.hbm, 216, rfl⟩
abbrev main_call0_call0_v134 : Ref sig .tc := ⟨.hbm, 217, rfl⟩
abbrev main_call0_call0_v135 : Ref sig .tc := ⟨.hbm, 218, rfl⟩
abbrev main_call0_call0_v136 : Ref sig .tc := ⟨.hbm, 219, rfl⟩
abbrev main_call0_call0_v137 : Ref sig .tc := ⟨.hbm, 220, rfl⟩
abbrev main_call0_call0_v138 : Ref sig .tc := ⟨.hbm, 221, rfl⟩
abbrev main_call0_call0_v139 : Ref sig .tc := ⟨.hbm, 222, rfl⟩
abbrev main_call0_call0_c_35 : Ref sig .tc := ⟨.hbm, 223, rfl⟩
abbrev main_call0_call0_v140 : Ref sig .tc := ⟨.hbm, 224, rfl⟩
abbrev main_call0_call0_v141 : Ref sig .tc := ⟨.hbm, 225, rfl⟩
abbrev main_call0_call0_v142 : Ref sig .tc := ⟨.hbm, 226, rfl⟩
abbrev main_call0_call0_c_36 : Ref sig .tc := ⟨.hbm, 227, rfl⟩
abbrev main_call0_call0_v143 : Ref sig .tc := ⟨.hbm, 228, rfl⟩
abbrev main_call0_call0_v144 : Ref sig .tc := ⟨.hbm, 229, rfl⟩
abbrev main_call0_call0_c_37 : Ref sig .tc := ⟨.hbm, 230, rfl⟩
abbrev main_call0_call0_v145 : Ref sig .tc := ⟨.hbm, 231, rfl⟩
abbrev main_call0_call0_v146 : Ref sig .tc := ⟨.hbm, 232, rfl⟩
abbrev main_call0_call0_v147 : Ref sig .tc := ⟨.hbm, 233, rfl⟩
abbrev main_call0_call0_v148 : Ref sig .tc := ⟨.hbm, 234, rfl⟩
abbrev main_call0_call0_v149 : Ref sig .tc := ⟨.hbm, 235, rfl⟩
abbrev main_call0_call0_c_38 : Ref sig .tc := ⟨.hbm, 236, rfl⟩
abbrev main_call0_call0_v150 : Ref sig .tc := ⟨.hbm, 237, rfl⟩
abbrev main_call0_call0_v151 : Ref sig .tc := ⟨.hbm, 238, rfl⟩
abbrev main_call0_call0_c_39 : Ref sig .tc := ⟨.hbm, 239, rfl⟩
abbrev main_call0_call0_v152 : Ref sig .tc := ⟨.hbm, 240, rfl⟩
abbrev main_call0_call0_v153 : Ref sig .tc := ⟨.hbm, 241, rfl⟩
abbrev main_call0_call0_v154 : Ref sig .tc := ⟨.hbm, 242, rfl⟩
abbrev main_call0_call0_v155 : Ref sig .tc := ⟨.hbm, 243, rfl⟩
abbrev main_call0_call0_v156 : Ref sig .tc := ⟨.hbm, 244, rfl⟩
abbrev main_call0_call0_c_40 : Ref sig .tc := ⟨.hbm, 245, rfl⟩
abbrev main_call0_call0_v157 : Ref sig .tc := ⟨.hbm, 246, rfl⟩
abbrev main_call0_call0_v158 : Ref sig .tc := ⟨.hbm, 247, rfl⟩
abbrev main_call0_call0_c_41 : Ref sig .tc := ⟨.hbm, 248, rfl⟩
abbrev main_call0_call0_v159 : Ref sig .tc := ⟨.hbm, 249, rfl⟩
abbrev main_call0_call0_v160 : Ref sig .tc := ⟨.hbm, 250, rfl⟩
abbrev main_call0_call0_v161 : Ref sig .tc := ⟨.hbm, 251, rfl⟩
abbrev main_call0_call0_v162 : Ref sig .tc := ⟨.hbm, 252, rfl⟩
abbrev main_call0_call0_v163 : Ref sig .tc := ⟨.hbm, 253, rfl⟩
abbrev main_call0_call0_c_42 : Ref sig .tc := ⟨.hbm, 254, rfl⟩
abbrev main_call0_call0_v164 : Ref sig .tc := ⟨.hbm, 255, rfl⟩
abbrev main_call0_call0_v165 : Ref sig .tc := ⟨.hbm, 256, rfl⟩
abbrev main_call0_call0_c_43 : Ref sig .tc := ⟨.hbm, 257, rfl⟩
abbrev main_call0_call0_v166 : Ref sig .tc := ⟨.hbm, 258, rfl⟩
abbrev main_call0_call0_v167 : Ref sig .tc := ⟨.hbm, 259, rfl⟩
abbrev main_call0_call0_v168 : Ref sig .tc := ⟨.hbm, 260, rfl⟩
abbrev main_call0_call0_v169 : Ref sig .tc := ⟨.hbm, 261, rfl⟩
abbrev main_call0_call0_v170 : Ref sig .tc := ⟨.hbm, 262, rfl⟩
abbrev main_call0_v23_0 : Ref sig .tc := ⟨.hbm, 263, rfl⟩
abbrev main_call0_call0_v172 : Ref sig .tc := ⟨.hbm, 264, rfl⟩
abbrev main_call0_call0_v173 : Ref sig .tc := ⟨.hbm, 265, rfl⟩
abbrev main_call0_call0_c_44 : Ref sig .tc := ⟨.hbm, 266, rfl⟩
abbrev main_call0_call0_v174 : Ref sig .tc := ⟨.hbm, 267, rfl⟩
abbrev main_call0_v23_1 : Ref sig .tc := ⟨.hbm, 268, rfl⟩
abbrev main_call0_v24 : Ref sig .tc := ⟨.hbm, 269, rfl⟩
abbrev main_call0_c_3 : Ref sig .tc := ⟨.hbm, 270, rfl⟩
abbrev main_call0_v25 : Ref sig .tc := ⟨.hbm, 271, rfl⟩
abbrev main_call0_v26 : Ref sig .tc := ⟨.hbm, 272, rfl⟩
abbrev main_call0_c_4 : Ref sig .tc := ⟨.hbm, 273, rfl⟩
abbrev main_call0_v27 : Ref sig .tc := ⟨.hbm, 274, rfl⟩
abbrev main_call0_v28 : Ref sig .tc := ⟨.hbm, 275, rfl⟩
abbrev main_call0_v29 : Ref sig .tc := ⟨.hbm, 276, rfl⟩
abbrev main_call0_cst : Ref sig .tc := ⟨.hbm, 277, rfl⟩
abbrev main_call0_v30 : Ref sig .tc := ⟨.hbm, 278, rfl⟩
abbrev main_call0_v31 : Ref sig .tc := ⟨.hbm, 279, rfl⟩
abbrev main_call0_v32 : Ref sig .tc := ⟨.hbm, 280, rfl⟩
abbrev main_call0_v33 : Ref sig .tc := ⟨.hbm, 281, rfl⟩
abbrev main_call0_v34 : Ref sig .tc := ⟨.hbm, 282, rfl⟩
abbrev main_call0_v35 : Ref sig .tc := ⟨.hbm, 283, rfl⟩
abbrev main_call0_v36 : Ref sig .tc := ⟨.hbm, 284, rfl⟩
abbrev main_call0_v37 : Ref sig .tc := ⟨.hbm, 285, rfl⟩
abbrev main_v11 : Ref sig .tc := ⟨.hbm, 286, rfl⟩
abbrev main_call1_cst : Ref sig .tc := ⟨.hbm, 287, rfl⟩
abbrev main_call1_v0 : Ref sig .tc := ⟨.hbm, 288, rfl⟩
abbrev main_call1_v1 : Ref sig .tc := ⟨.hbm, 289, rfl⟩
abbrev main_call1_v2 : Ref sig .tc := ⟨.hbm, 290, rfl⟩
abbrev main_call1_v3 : Ref sig .tc := ⟨.hbm, 291, rfl⟩
abbrev main_call1_v4 : Ref sig .tc := ⟨.hbm, 292, rfl⟩
abbrev main_call1_v5 : Ref sig .tc := ⟨.hbm, 293, rfl⟩
abbrev main_call1_v6 : Ref sig .tc := ⟨.hbm, 294, rfl⟩
abbrev main_call1_v7 : Ref sig .tc := ⟨.hbm, 295, rfl⟩
abbrev main_call1_v8 : Ref sig .tc := ⟨.hbm, 296, rfl⟩
abbrev main_call1_v9 : Ref sig .tc := ⟨.hbm, 297, rfl⟩
abbrev main_call1_v10 : Ref sig .tc := ⟨.hbm, 298, rfl⟩
abbrev main_call1_v11 : Ref sig .tc := ⟨.hbm, 299, rfl⟩
abbrev main_v12 : Ref sig .tc := ⟨.hbm, 300, rfl⟩
abbrev main_v13 : Ref sig .tc := ⟨.hbm, 301, rfl⟩
abbrev main_v14 : Ref sig .tc := ⟨.hbm, 302, rfl⟩
abbrev main_v15 : Ref sig .tc := ⟨.hbm, 303, rfl⟩
abbrev main_v16 : Ref sig .tc := ⟨.hbm, 304, rfl⟩
abbrev main_v17 : Ref sig .tc := ⟨.hbm, 305, rfl⟩
abbrev main_values : Ref sig .tc := ⟨.hbm, 306, rfl⟩
abbrev main_indices : Ref sig .tc := ⟨.hbm, 307, rfl⟩
abbrev main_v18 : Ref sig .tc := ⟨.hbm, 308, rfl⟩
abbrev main_v19 : Ref sig .tc := ⟨.hbm, 309, rfl⟩
abbrev main_v20 : Ref sig .tc := ⟨.hbm, 310, rfl⟩
abbrev main_v21 : Ref sig .tc := ⟨.hbm, 311, rfl⟩
abbrev main_v22 : Ref sig .tc := ⟨.hbm, 312, rfl⟩
abbrev main_cst_3 : Ref sig .tc := ⟨.hbm, 313, rfl⟩
abbrev main_v23 : Ref sig .tc := ⟨.hbm, 314, rfl⟩
abbrev main_c_4 : Ref sig .tc := ⟨.hbm, 315, rfl⟩
abbrev main_v24 : Ref sig .tc := ⟨.hbm, 316, rfl⟩
abbrev main_v25 : Ref sig .tc := ⟨.hbm, 317, rfl⟩
abbrev main_c_5 : Ref sig .tc := ⟨.hbm, 318, rfl⟩
abbrev main_v26 : Ref sig .tc := ⟨.hbm, 319, rfl⟩
abbrev main_v27 : Ref sig .tc := ⟨.hbm, 320, rfl⟩
abbrev main_v28 : Ref sig .tc := ⟨.hbm, 321, rfl⟩
abbrev main_c_6 : Ref sig .tc := ⟨.hbm, 322, rfl⟩
abbrev main_v29 : Ref sig .tc := ⟨.hbm, 323, rfl⟩
abbrev main_v30 : Ref sig .tc := ⟨.hbm, 324, rfl⟩
abbrev main_c_7 : Ref sig .tc := ⟨.hbm, 325, rfl⟩
abbrev main_v31 : Ref sig .tc := ⟨.hbm, 326, rfl⟩
abbrev main_v32 : Ref sig .tc := ⟨.hbm, 327, rfl⟩
abbrev main_v33 : Ref sig .tc := ⟨.hbm, 328, rfl⟩
abbrev main_v34 : Ref sig .tc := ⟨.hbm, 329, rfl⟩
abbrev main_v35 : Ref sig .tc := ⟨.hbm, 330, rfl⟩
abbrev main_v36 : Ref sig .tc := ⟨.hbm, 331, rfl⟩
abbrev main_v37 : Ref sig .tc := ⟨.hbm, 332, rfl⟩
abbrev main_v38 : Ref sig .tc := ⟨.hbm, 333, rfl⟩
abbrev main_cst_8 : Ref sig .tc := ⟨.hbm, 334, rfl⟩
abbrev main_v39 : Ref sig .tc := ⟨.hbm, 335, rfl⟩
abbrev main_cst_9 : Ref sig .tc := ⟨.hbm, 336, rfl⟩
abbrev main_v40 : Ref sig .tc := ⟨.hbm, 337, rfl⟩
abbrev main_v41 : Ref sig .tc := ⟨.hbm, 338, rfl⟩
abbrev main_v42 : Ref sig .tc := ⟨.hbm, 339, rfl⟩
abbrev main_v43 : Ref sig .tc := ⟨.hbm, 340, rfl⟩
abbrev main_v44 : Ref sig .tc := ⟨.hbm, 341, rfl⟩
abbrev main_v45 : Ref sig .tc := ⟨.hbm, 342, rfl⟩
abbrev main_cst_10 : Ref sig .tc := ⟨.hbm, 343, rfl⟩
abbrev main_v46 : Ref sig .tc := ⟨.hbm, 344, rfl⟩
abbrev main_v47 : Ref sig .tc := ⟨.hbm, 345, rfl⟩
abbrev main_v48 : Ref sig .tc := ⟨.hbm, 346, rfl⟩
abbrev main_v49 : Ref sig .tc := ⟨.hbm, 347, rfl⟩
abbrev main_v50 : Ref sig .tc := ⟨.hbm, 348, rfl⟩

abbrev nD : Nat := 1
abbrev τ : Topo := Topo.v7x

variable {F : FTy → Type} [FloatOps F]
-- ==== Proof.RefOps.lean ====
/-
  The reference as a list of its operations, cut where its mathematics has a name: the two products, the uniform draw (its counts,
  threefry's five groups of four rounds, the word read as a float), softplus, the noisy logits, the eight greatest, the softmax.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.RouterRef

open Cert.ReferenceIdeal Cert.ReferenceIdeal.Gen Idealize.ShloMosaic Idealize.ShloMosaic.TcCoe Idealize.SL.Sem Idealize.ShloMosaic.StableHlo

variable {F : FTy → Type} [FloatOps F]

/-- What threefry does first: the third key word, and the two counter words plus the first two key words. -/
abbrev tfStart (a0 a1 : TRef sig ⟨S_, .i32⟩) (a2 a3 : TRef sig ⟨S4x4096x64, .i32⟩) (φ : fn_threefry2x32.Bufs) : List (HloOp τ sig (Elt F)) :=
  [ TRef.binary a0 a1 φ.v0 xori,
    TRef.nullary φ.c (constantI S_ 32 466688986#32),
    TRef.binary φ.v0 φ.c φ.v1 xori,
    TRef.unary a0 φ.v2 (broadcastInDim S4x4096x64 ![] bcast_S_S4x4096x64),
    TRef.binary a2 φ.v2 φ.v3 addi,
    TRef.unary a1 φ.v4 (broadcastInDim S4x4096x64 ![] bcast_S_S4x4096x64),
    TRef.binary a3 φ.v4 φ.v5 addi ]

/-- Threefry, rounds 1 to 4, and the key words then added. -/
abbrev tfGroup1 (a0 a1 : TRef sig ⟨S_, .i32⟩) (a2 a3 : TRef sig ⟨S4x4096x64, .i32⟩) (φ : fn_threefry2x32.Bufs) : List (HloOp τ sig (Elt F)) :=
  [ TRef.binary φ.v3 φ.v5 φ.v6 addi,
    TRef.nullary φ.c_0 (constantI S_ 32 13#32),
    TRef.unary φ.c_0 φ.v7 (broadcastInDim S4x4096x64 ![] bcast_S_S4x4096x64),
    TRef.binary φ.v5 φ.v7 φ.v8 Host.shli,
    TRef.nullary φ.c_1 (constantI S_ 32 19#32),
    TRef.unary φ.c_1 φ.v9 (broadcastInDim S4x4096x64 ![] bcast_S_S4x4096x64),
    TRef.binary φ.v5 φ.v9 φ.v10 Host.shrui,
    TRef.binary φ.v8 φ.v10 φ.v11 ori,
    TRef.binary φ.v6 φ.v11 φ.v12 xori,
    TRef.binary φ.v6 φ.v12 φ.v13 addi,
    TRef.nullary φ.c_2 (constantI S_ 32 15#32),
    TRef.unary φ.c_2 φ.v14 (broadcastInDim S4x4096x64 ![] bcast_S_S4x4096x64),
    TRef.binary φ.v12 φ.v14 φ.v15 Host.shli,
    TRef.nullary φ.c_3 (constantI S_ 32 17#32),
    TRef.unary φ.c_3 φ.v16 (broadcastInDim S4x4096x64 ![] bcast_S_S4x4096x64),
    TRef.binary φ.v12 φ.v16 φ.v17 Host.shrui,
    TRef.binary φ.v15 φ.v17 φ.v18 ori,
    TRef.binary φ.v13 φ.v18 φ.v19 xori,
    TRef.binary φ.v13 φ.v19 φ.v20 addi,
    TRef.nullary φ.c_4 (constantI S_ 32 26#32),
    TRef.unary φ.c_4 φ.v21 (broadcastInDim S4x4096x64 ![] bcast_S_S4x4096x64),
    TRef.binary φ.v19 φ.v21 φ.v22 Host.shli,
    TRef.nullary φ.c_5 (constantI S_ 32 6#32),
    TRef.unary φ.c_5 φ.v23 (broadcastInDim S4x4096x64 ![] bcast_S_S4x4096x64),
    TRef.binary φ.v19 φ.v23 φ.v24 Host.shrui,
    TRef.binary φ.v22 φ.v24 φ.v25 ori,
    TRef.binary φ.v20 φ.v25 φ.v26 xori,
    TRef.binary φ.v20 φ.v26 φ.v27 addi,
    TRef.nullary φ.c_6 (constantI S_ 32 6#32),
    TRef.unary φ.c_6 φ.v28 (broadcastInDim S4x4096x64 ![] bcast_S_S4x4096x64),
    TRef.binary φ.v26 φ.v28 φ.v29 Host.shli,
    TRef.nullary φ.c_7 (constantI S_ 32 26#32),
    TRef.unary φ.c_7 φ.v30 (broadcastInDim S4x4096x64 ![] bcast_S_S4x4096x64),
    TRef.binary φ.v26 φ.v30 φ.v31 Host.shrui,
    TRef.binary φ.v29 φ.v31 φ.v32 ori,
    TRef.binary φ.v27 φ.v32 φ.v33 xori,
    TRef.unary a1 φ.v34 (broadcastInDim S4x4096x64 ![] bcast_S_S4x4096x64),
    TRef.binary φ.v27 φ.v34 φ.v35 addi,
    TRef.unary φ.v1 φ.v36 (broadcastInDim S4x4096x64 ![] bcast_S_S4x4096x64),
    TRef.binary φ.v33 φ.v36 φ.v37 addi,
    TRef.nullary φ.c_8 (constantI S_ 32 1#32),
    TRef.unary φ.c_8 φ.v38 (broadcastInDim S4x4096x64 ![] bcast_S_S4x4096x64),
    TRef.binary φ.v37 φ.v38 φ.v39 addi ]

/-- Threefry, rounds 5 to 8, and the key words then added. -/
abbrev tfGroup2 (a0 a1 : TRef sig ⟨S_, .i32⟩) (a2 a3 : TRef sig ⟨S4x4096x64, .i32⟩) (φ : fn_threefry2x32.Bufs) : List (HloOp τ sig (Elt F)) :=
  [ TRef.binary φ.v35 φ.v39 φ.v40 addi,
    TRef.nullary φ.c_9 (constantI S_ 32 17#32),
    TRef.unary φ.c_9 φ.v41 (broadcastInDim S4x4096x64 ![] bcast_S_S4x4096x64),
    TRef.binary φ.v39 φ.v41 φ.v42 Host.shli,
    TRef.nullary φ.c_10 (constantI S_ 32 15#32),
    TRef.unary φ.c_10 φ.v43 (broadcastInDim S4x4096x64 ![] bcast_S_S4x4096x64),
    TRef.binary φ.v39 φ.v43 φ.v44 Host.shrui,
    TRef.binary φ.v42 φ.v44 φ.v45 ori,
    TRef.binary φ.v40 φ.v45 φ.v46 xori,
    TRef.binary φ.v40 φ.v46 φ.v47 addi,
    TRef.nullary φ.c_11 (constantI S_ 32 29#32),
    TRef.unary φ.c_11 φ.v48 (broadcastInDim S4x4096x64 ![] bcast_S_S4x4096x64),
    TRef.binary φ.v46 φ.v48 φ.v49 Host.shli,
    TRef.nullary φ.c_12 (constantI S_ 32 3#32),
    TRef.unary φ.c_12 φ.v50 (broadcastInDim S4x4096x64 ![] bcast_S_S4x4096x64),
    TRef.binary φ.v46 φ.v50 φ.v51 Host.shrui,
    TRef.binary φ.v49 φ.v51 φ.v52 ori,
    TRef.binary φ.v47 φ.v52 φ.v53 xori,
    TRef.binary φ.v47 φ.v53 φ.v54 addi,
    TRef.nullary φ.c_13 (constantI S_ 32 16#32),
    TRef.unary φ.c_13 φ.v55 (broadcastInDim S4x4096x64 ![] bcast_S_S4x4096x64),
    TRef.binary φ.v53 φ.v55 φ.v56 Host.shli,
    TRef.nullary φ.c_14 (constantI S_ 32 16#32),
    TRef.unary φ.c_14 φ.v57 (broadcastInDim S4x4096x64 ![] bcast_S_S4x4096x64),
    TRef.binary φ.v53 φ.v57 φ.v58 Host.shrui,
    TRef.binary φ.v56 φ.v58 φ.v59 ori,
    TRef.binary φ.v54 φ.v59 φ.v60 xori,
    TRef.binary φ.v54 φ.v60 φ.v61 addi,
    TRef.nullary φ.c_15 (constantI S_ 32 24#32),
    TRef.unary φ.c_15 φ.v62 (broadcastInDim S4x4096x64 ![] bcast_S_S4x4096x64),
    TRef.binary φ.v60 φ.v62 φ.v63 Host.shli,
    TRef.nullary φ.c_16 (constantI S_ 32 8#32),
    TRef.unary φ.c_16 φ.v64 (broadcastInDim S4x4096x64 ![] bcast_S_S4x4096x64),
    TRef.binary φ.v60 φ.v64 φ.v65 Host.shrui,
    TRef.binary φ.v63 φ.v65 φ.v66 ori,
    TRef.binary φ.v61 φ.v66 φ.v67 xori,
    TRef.unary φ.v1 φ.v68 (broadcastInDim S4x4096x64 ![] bcast_S_S4x4096x64),
    TRef.binary φ.v61 φ.v68 φ.v69 addi,
    TRef.unary a0 φ.v70 (broadcastInDim S4x4096x64 ![] bcast_S_S4x4096x64),
    TRef.binary φ.v67 φ.v70 φ.v71 addi,
    TRef.nullary φ.c_17 (constantI S_ 32 2#32),
    TRef.unary φ.c_17 φ.v72 (broadcastInDim S4x4096x64 ![] bcast_S_S4x4096x64),
    TRef.binary φ.v71 φ.v72 φ.v73 addi ]

/-- Threefry, rounds 9 to 12, and the key words then added. -/
abbrev tfGroup3 (a0 a1 : TRef sig ⟨S_, .i32⟩) (a2 a3 : TRef sig ⟨S4x4096x64, .i32⟩) (φ : fn_threefry2x32.Bufs) : List (HloOp τ sig (Elt F)) :=
  [ TRef.binary φ.v69 φ.v73 φ.v74 addi,
    TRef.nullary φ.c_18 (constantI S_ 32 13#32),
    TRef.unary φ.c_18 φ.v75 (broadcastInDim S4x4096x64 ![] bcast_S_S4x4096x64),
    TRef.binary φ.v73 φ.v75 φ.v76 Host.shli,
    TRef.nullary φ.c_19 (constantI S_ 32 19#32),
    TRef.unary φ.c_19 φ.v77 (broadcastInDim S4x4096x64 ![] bcast_S_S4x4096x64),
    TRef.binary φ.v73 φ.v77 φ.v78 Host.shrui,
    TRef.binary φ.v76 φ.v78 φ.v79 ori,
    TRef.binary φ.v74 φ.v79 φ.v80 xori,
    TRef.binary φ.v74 φ.v80 φ.v81 addi,
    TRef.nullary φ.c_20 (constantI S_ 32 15#32),
    TRef.unary φ.c_20 φ.v82 (broadcastInDim S4x4096x64 ![] bcast_S_S4x4096x64),
    TRef.binary φ.v80 φ.v82 φ.v83 Host.shli,
    TRef.nullary φ.c_21 (constantI S_ 32 17#32),
    TRef.unary φ.c_21 φ.v84 (broadcastInDim S4x4096x64 ![] bcast_S_S4x4096x64),
    TRef.binary φ.v80 φ.v84 φ.v85 Host.shrui,
    TRef.binary φ.v83 φ.v85 φ.v86 ori,
    TRef.binary φ.v81 φ.v86 φ.v87 xori,
    TRef.binary φ.v81 φ.v87 φ.v88 addi,
    TRef.nullary φ.c_22 (constantI S_ 32 26#32),
    TRef.unary φ.c_22 φ.v89 (broadcastInDim S4x4096x64 ![] bcast_S_S4x4096x64),
    TRef.binary φ.v87 φ.v89 φ.v90 Host.shli,
    TRef.nullary φ.c_23 (constantI S_ 32 6#32),
    TRef.unary φ.c_23 φ.v91 (broadcastInDim S4x4096x64 ![] bcast_S_S4x4096x64),
    TRef.binary φ.v87 φ.v91 φ.v92 Host.shrui,
    TRef.binary φ.v90 φ.v92 φ.v93 ori,
    TRef.binary φ.v88 φ.v93 φ.v94 xori,
    TRef.binary φ.v88 φ.v94 φ.v95 addi,
    TRef.nullary φ.c_24 (constantI S_ 32 6#32),
    TRef.unary φ.c_24 φ.v96 (broadcastInDim S4x4096x64 ![] bcast_S_S4x4096x64),
    TRef.binary φ.v94 φ.v96 φ.v97 Host.shli,
    TRef.nullary φ.c_25 (constantI S_ 32 26#32),
    TRef.unary φ.c_25 φ.v98 (broadcastInDim S4x4096x64 ![] bcast_S_S4x4096x64),
    TRef.binary φ.v94 φ.v98 φ.v99 Host.shrui,
    TRef.binary φ.v97 φ.v99 φ.v100 ori,
    TRef.binary φ.v95 φ.v100 φ.v101 xori,
    TRef.unary a0 φ.v102 (broadcastInDim S4x4096x64 ![] bcast_S_S4x4096x64),
    TRef.binary φ.v95 φ.v102 φ.v103 addi,
    TRef.unary a1 φ.v104 (broadcastInDim S4x4096x64 ![] bcast_S_S4x4096x64),
    TRef.binary φ.v101 φ.v104 φ.v105 addi,
    TRef.nullary φ.c_26 (constantI S_ 32 3#32),
    TRef.unary φ.c_26 φ.v106 (broadcastInDim S4x4096x64 ![] bcast_S_S4x4096x64),
    TRef.binary φ.v105 φ.v106 φ.v107 addi ]

/-- Threefry, rounds 13 to 16, and the key words then added. -/
abbrev tfGroup4 (a0 a1 : TRef sig ⟨S_, .i32⟩) (a2 a3 : TRef sig ⟨S4x4096x64, .i32⟩) (φ : fn_threefry2x32.Bufs) : List (HloOp τ sig (Elt F)) :=
  [ TRef.binary φ.v103 φ.v107 φ.v108 addi,
    TRef.nullary φ.c_27 (constantI S_ 32 17#32),
    TRef.unary φ.c_27 φ.v109 (broadcastInDim S4x4096x64 ![] bcast_S_S4x4096x64),
    TRef.binary φ.v107 φ.v109 φ.v110 Host.shli,
    TRef.nullary φ.c_28 (constantI S_ 32 15#32),
    TRef.unary φ.c_28 φ.v111 (broadcastInDim S4x4096x64 ![] bcast_S_S4x4096x64),
    TRef.binary φ.v107 φ.v111 φ.v112 Host.shrui,
    TRef.binary φ.v110 φ.v112 φ.v113 ori,
    TRef.binary φ.v108 φ.v113 φ.v114 xori,
    TRef.binary φ.v108 φ.v114 φ.v115 addi,
    TRef.nullary φ.c_29 (constantI S_ 32 29#32),
    TRef.unary φ.c_29 φ.v116 (broadcastInDim S4x4096x64 ![] bcast_S_S4x4096x64),
    TRef.binary φ.v114 φ.v116 φ.v117 Host.shli,
    TRef.nullary φ.c_30 (constantI S_ 32 3#32),
    TRef.unary φ.c_30 φ.v118 (broadcastInDim S4x4096x64 ![] bcast_S_S4x4096x64),
    TRef.binary φ.v114 φ.v118 φ.v119 Host.shrui,
    TRef.binary φ.v117 φ.v119 φ.v120 ori,
    TRef.binary φ.v115 φ.v120 φ.v121 xori,
    TRef.binary φ.v115 φ.v121 φ.v122 addi,
    TRef.nullary φ.c_31 (constantI S_ 32 16#32),
    TRef.unary φ.c_31 φ.v123 (broadcastInDim S4x4096x64 ![] bcast_S_S4x4096x64),
    TRef.binary φ.v121 φ.v123 φ.v124 Host.shli,
    TRef.nullary φ.c_32 (constantI S_ 32 16#32),
    TRef.unary φ.c_32 φ.v125 (broadcastInDim S4x4096x64 ![] bcast_S_S4x4096x64),
    TRef.binary φ.v121 φ.v125 φ.v126 Host.shrui,
    TRef.binary φ.v124 φ.v126 φ.v127 ori,
    TRef.binary φ.v122 φ.v127 φ.v128 xori,
    TRef.binary φ.v122 φ.v128 φ.v129 addi,
    TRef.nullary φ.c_33 (constantI S_ 32 24#32),
    TRef.unary φ.c_33 φ.v130 (broadcastInDim S4x4096x64 ![] bcast_S_S4x4096x64),
    TRef.binary φ.v128 φ.v130 φ.v131 Host.shli,
    TRef.nullary φ.c_34 (constantI S_ 32 8#32),
    TRef.unary φ.c_34 φ.v132 (broadcastInDim S4x4096x64 ![] bcast_S_S4x4096x64),
    TRef.binary φ.v128 φ.v132 φ.v133 Host.shrui,
    TRef.binary φ.v131 φ.v133 φ.v134 ori,
    TRef.binary φ.v129 φ.v134 φ.v135 xori,
    TRef.unary a1 φ.v136 (broadcastInDim S4x4096x64 ![] bcast_S_S4x4096x64),
    TRef.binary φ.v129 φ.v136 φ.v137 addi,
    TRef.unary φ.v1 φ.v138 (broadcastInDim S4x4096x64 ![] bcast_S_S4x4096x64),
    TRef.binary φ.v135 φ.v138 φ.v139 addi,
    TRef.nullary φ.c_35 (constantI S_ 32 4#32),
    TRef.unary φ.c_35 φ.v140 (broadcastInDim S4x4096x64 ![] bcast_S_S4x4096x64),
    TRef.binary φ.v139 φ.v140 φ.v141 addi ]

/-- Threefry, rounds 17 to 20, and the key words then added. -/
abbrev tfGroup5 (a0 a1 : TRef sig ⟨S_, .i32⟩) (a2 a3 : TRef sig ⟨S4x4096x64, .i32⟩) (φ : fn_threefry2x32.Bufs) : List (HloOp τ sig (Elt F)) :=
  [ TRef.binary φ.v137 φ.v141 φ.v142 addi,
    TRef.nullary φ.c_36 (constantI S_ 32 13#32),
    TRef.unary φ.c_36 φ.v143 (broadcastInDim S4x4096x64 ![] bcast_S_S4x4096x64),
    TRef.binary φ.v141 φ.v143 φ.v144 Host.shli,
    TRef.nullary φ.c_37 (constantI S_ 32 19#32),
    TRef.unary φ.c_37 φ.v145 (broadcastInDim S4x4096x64 ![] bcast_S_S4x4096x64),
    TRef.binary φ.v141 φ.v145 φ.v146 Host.shrui,
    TRef.binary φ.v144 φ.v146 φ.v147 ori,
    TRef.binary φ.v142 φ.v147 φ.v148 xori,
    TRef.binary φ.v142 φ.v148 φ.v149 addi,
    TRef.nullary φ.c_38 (constantI S_ 32 15#32),
    TRef.unary φ.c_38 φ.v150 (broadcastInDim S4x4096x64 ![] bcast_S_S4x4096x64),
    TRef.binary φ.v148 φ.v150 φ.v151 Host.shli,
    TRef.nullary φ.c_39 (constantI S_ 32 17#32),
    TRef.unary φ.c_39 φ.v152 (broadcastInDim S4x4096x64 ![] bcast_S_S4x4096x64),
    TRef.binary φ.v148 φ.v152 φ.v153 Host.shrui,
    TRef.binary φ.v151 φ.v153 φ.v154 ori,
    TRef.binary φ.v149 φ.v154 φ.v155 xori,
    TRef.binary φ.v149 φ.v155 φ.v156 addi,
    TRef.nullary φ.c_40 (constantI S_ 32 26#32),
    TRef.unary φ.c_40 φ.v157 (broadcastInDim S4x4096x64 ![] bcast_S_S4x4096x64),
    TRef.binary φ.v155 φ.v157 φ.v158 Host.shli,
    TRef.nullary φ.c_41 (constantI S_ 32 6#32),
    TRef.unary φ.c_41 φ.v159 (broadcastInDim S4x4096x64 ![] bcast_S_S4x4096x64),
    TRef.binary φ.v155 φ.v159 φ.v160 Host.shrui,
    TRef.binary φ.v158 φ.v160 φ.v161 ori,
    TRef.binary φ.v156 φ.v161 φ.v162 xori,
    TRef.binary φ.v156 φ.v162 φ.v163 addi,
    TRef.nullary φ.c_42 (constantI S_ 32 6#32),
    TRef.unary φ.c_42 φ.v164 (broadcastInDim S4x4096x64 ![] bcast_S_S4x4096x64),
    TRef.binary φ.v162 φ.v164 φ.v165 Host.shli,
    TRef.nullary φ.c_43 (constantI S_ 32 26#32),
    TRef.unary φ.c_43 φ.v166 (broadcastInDim S4x4096x64 ![] bcast_S_S4x4096x64),
    TRef.binary φ.v162 φ.v166 φ.v167 Host.shrui,
    TRef.binary φ.v165 φ.v167 φ.v168 ori,
    TRef.binary φ.v163 φ.v168 φ.v169 xori,
    TRef.unary φ.v1 φ.v170 (broadcastInDim S4x4096x64 ![] bcast_S_S4x4096x64),
    TRef.binary φ.v163 φ.v170 φ.v171 addi,
    TRef.unary a0 φ.v172 (broadcastInDim S4x4096x64 ![] bcast_S_S4x4096x64),
    TRef.binary φ.v169 φ.v172 φ.v173 addi,
    TRef.nullary φ.c_44 (constantI S_ 32 5#32),
    TRef.unary φ.c_44 φ.v174 (broadcastInDim S4x4096x64 ![] bcast_S_S4x4096x64),
    TRef.binary φ.v173 φ.v174 φ.v175 addi ]

/-- The uniform draw before threefry: the bounds, the key words, and each place's count as two words. -/
abbrev unHead (a0 : TRef sig ⟨S2, .i32⟩) (a1 a2 : TRef sig ⟨S_, .f32⟩) (φ : fn_uniform.Bufs) : List (HloOp τ sig (Elt F)) :=
  [ TRef.unary a1 φ.v0 id,
    TRef.unary a2 φ.v1 id,
    TRef.unary φ.v0 φ.v2 (broadcastInDim S1x1x1 ![] bcast_S_S1x1x1),
    TRef.unary φ.v1 φ.v3 (broadcastInDim S1x1x1 ![] bcast_S_S1x1x1),
    TRef.unary a0 φ.v4 (extractStridedSlice S1 ![0] · slices_S2_S1_0),
    TRef.reshape φ.v4 φ.v5 (rfl : (.i32 : EltTy) = .i32) shapeCasts_S1_S_,
    TRef.unary a0 φ.v6 (extractStridedSlice S1 ![1] · slices_S2_S1_1),
    TRef.reshape φ.v6 φ.v7 (rfl : (.i32 : EltTy) = .i32) shapeCasts_S1_S_,
    TRef.nullary φ.v8 (iotaInDim S4x4096x64 64 0),
    TRef.nullary φ.v9 (iotaInDim S4x4096x64 64 1),
    TRef.nullary φ.v10 (iotaInDim S4x4096x64 64 2),
    TRef.nullary φ.c (constantI S_ 64 262144#64),
    TRef.unary φ.c φ.v11 (broadcastInDim S4x4096x64 ![] bcast_S_S4x4096x64),
    TRef.binary φ.v11 φ.v8 φ.v12 muli,
    TRef.nullary φ.c_0 (constantI S_ 64 64#64),
    TRef.unary φ.c_0 φ.v13 (broadcastInDim S4x4096x64 ![] bcast_S_S4x4096x64),
    TRef.binary φ.v13 φ.v9 φ.v14 muli,
    TRef.nullary φ.c_1 (constantI S_ 64 1#64),
    TRef.unary φ.c_1 φ.v15 (broadcastInDim S4x4096x64 ![] bcast_S_S4x4096x64),
    TRef.binary φ.v15 φ.v10 φ.v16 muli,
    TRef.binary φ.v12 φ.v14 φ.v17 addi,
    TRef.binary φ.v17 φ.v16 φ.v18 addi,
    TRef.nullary φ.c_2 (constantI S_ 64 32#64),
    TRef.unary φ.c_2 φ.v19 (broadcastInDim S4x4096x64 ![] bcast_S_S4x4096x64),
    TRef.binary φ.v18 φ.v19 φ.v20 Host.shrui,
    TRef.unary φ.v18 φ.v21 (trunci 32 · natLt_32_64),
    TRef.unary φ.v20 φ.v22 (trunci 32 · natLt_32_64) ]

/-- The uniform draw after threefry: the word read as a float of [1, 2), less one, scaled to the bounds. -/
abbrev unTail (a0 : TRef sig ⟨S2, .i32⟩) (a1 a2 : TRef sig ⟨S_, .f32⟩) (φ : fn_uniform.Bufs) : List (HloOp τ sig (Elt F)) :=
  [ TRef.binary φ.call0.v171 φ.call0.v175 φ.v24 xori,
    TRef.nullary φ.c_3 (constantI S_ 32 9#32),
    TRef.unary φ.c_3 φ.v25 (broadcastInDim S4x4096x64 ![] bcast_S_S4x4096x64),
    TRef.binary φ.v24 φ.v25 φ.v26 Host.shrui,
    TRef.nullary φ.c_4 (constantI S_ 32 1065353216#32),
    TRef.unary φ.c_4 φ.v27 (broadcastInDim S4x4096x64 ![] bcast_S_S4x4096x64),
    TRef.binary φ.v26 φ.v27 φ.v28 ori,
    TRef.unary φ.v28 φ.v29 (bitcastToFloat .f32),
    TRef.nullary φ.cst (constant S_ .f32 0x3F800000#32),
    TRef.unary φ.cst φ.v30 (broadcastInDim S4x4096x64 ![] bcast_S_S4x4096x64),
    TRef.binary φ.v29 φ.v30 φ.v31 subf,
    TRef.binary φ.v3 φ.v2 φ.v32 subf,
    TRef.unary φ.v32 φ.v33 (broadcastInDim S4x4096x64 ![0, 1, 2] bcast_S1x1x1_S4x4096x64_0_1_2),
    TRef.binary φ.v31 φ.v33 φ.v34 mulf,
    TRef.unary φ.v2 φ.v35 (broadcastInDim S4x4096x64 ![0, 1, 2] bcast_S1x1x1_S4x4096x64_0_1_2),
    TRef.binary φ.v34 φ.v35 φ.v36 addf,
    TRef.unary φ.v2 φ.v37 (broadcastInDim S4x4096x64 ![0, 1, 2] bcast_S1x1x1_S4x4096x64_0_1_2),
    TRef.binary φ.v37 φ.v36 φ.v38 maximumf ]

/-- The softplus function's operations. -/
abbrev spOps (a0 : TRef sig ⟨S4x4096x64, .f32⟩) (φ : fn_softplus.Bufs) : List (HloOp τ sig (Elt F)) :=
  [ TRef.nullary φ.cst (constant S_ .f32 0x00000000#32),
    TRef.unary φ.cst φ.v0 (broadcastInDim S4x4096x64 ![] bcast_S_S4x4096x64),
    TRef.binary a0 φ.v0 φ.v1 maximumf,
    TRef.unary φ.cst φ.v2 (broadcastInDim S4x4096x64 ![] bcast_S_S4x4096x64),
    TRef.binary a0 φ.v2 φ.v3 subf,
    TRef.binary φ.v3 φ.v3 φ.v4 (cmpf .une),
    TRef.unary φ.cst φ.v5 (broadcastInDim S4x4096x64 ![] bcast_S_S4x4096x64),
    TRef.binary a0 φ.v5 φ.v6 addf,
    TRef.unary φ.v3 φ.v7 Host.absf,
    TRef.unary φ.v7 φ.v8 Host.negf,
    TRef.unary φ.v8 φ.v9 Host.exp,
    TRef.unary φ.v9 φ.v10 Host.log1p,
    TRef.binary φ.v1 φ.v10 φ.v11 addf,
    TRef.ternary φ.v4 φ.v6 φ.v11 φ.v12 select ]

/-- The two products, and the key. -/
abbrev mHead : List (HloOp τ sig (Elt F)) :=
  [ unary main_arg1 main_v0 ((transpose S4096x64 [1, 0] · transposes_S64x4096_S4096x64_1_0) : (⟨S64x4096, .f32⟩ : BufTy).Contents (Elt F) → (⟨S4096x64, .f32⟩ : BufTy).Contents (Elt F)),
    binary main_arg0 main_v0 main_v1 ((fun l r => Host.dotGeneral dot_S4x4096x4096_S4096x64_S4x4096x64_2_0_01_1_n_n none l r) : (⟨S4x4096x4096, .f32⟩ : BufTy).Contents (Elt F) → (⟨S4096x64, .f32⟩ : BufTy).Contents (Elt F) → (⟨S4x4096x64, .f32⟩ : BufTy).Contents (Elt F)),
    unary main_arg2 main_v2 ((transpose S4096x64 [1, 0] · transposes_S64x4096_S4096x64_1_0) : (⟨S64x4096, .f32⟩ : BufTy).Contents (Elt F) → (⟨S4096x64, .f32⟩ : BufTy).Contents (Elt F)),
    binary main_arg0 main_v2 main_v3 ((fun l r => Host.dotGeneral dot_S4x4096x4096_S4096x64_S4x4096x64_2_0_01_1_n_n none l r) : (⟨S4x4096x4096, .f32⟩ : BufTy).Contents (Elt F) → (⟨S4096x64, .f32⟩ : BufTy).Contents (Elt F) → (⟨S4x4096x64, .f32⟩ : BufTy).Contents (Elt F)),
    nullary main_c (constantI S_ 32 42#32),
    nullary main_c_0 (constantI S_ 32 32#32),
    binary main_c main_c_0 main_v4 (Host.shrui : (⟨S_, .i32⟩ : BufTy).Contents (Elt F) → (⟨S_, .i32⟩ : BufTy).Contents (Elt F) → (⟨S_, .i32⟩ : BufTy).Contents (Elt F)),
    unary main_v4 main_v5 (id : (⟨S_, .i32⟩ : BufTy).Contents (Elt F) → (⟨S_, .i32⟩ : BufTy).Contents (Elt F)),
    unary main_v5 main_v6 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v7 (andi : (⟨S_, .i32⟩ : BufTy).Contents (Elt F) → (⟨S_, .i32⟩ : BufTy).Contents (Elt F) → (⟨S_, .i32⟩ : BufTy).Contents (Elt F)),
    unary main_v7 main_v8 (id : (⟨S_, .i32⟩ : BufTy).Contents (Elt F) → (⟨S_, .i32⟩ : BufTy).Contents (Elt F)),
    unary main_v8 main_v9 (broadcastInDim S1 ![] bcast_S_S1 : (⟨S_, .i32⟩ : BufTy).Contents (Elt F) → (⟨S1, .i32⟩ : BufTy).Contents (Elt F)),
    binary main_v6 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst (constant S_ .f32 0x00000000#32),
    nullary main_cst_2 (constant S_ .f32 0x3F800000#32) ]

/-- The noisy logits. -/
abbrev mNoisy : List (HloOp τ sig (Elt F)) :=
  [ binary main_v11 main_v12 main_v13 (mulf : (⟨S4x4096x64, .f32⟩ : BufTy).Contents (Elt F) → (⟨S4x4096x64, .f32⟩ : BufTy).Contents (Elt F) → (⟨S4x4096x64, .f32⟩ : BufTy).Contents (Elt F)),
    binary main_v13 main_v1 main_v14 (addf : (⟨S4x4096x64, .f32⟩ : BufTy).Contents (Elt F) → (⟨S4x4096x64, .f32⟩ : BufTy).Contents (Elt F) → (⟨S4x4096x64, .f32⟩ : BufTy).Contents (Elt F)),
    unary main_arg3 main_v15 (broadcastInDim S1x1x64 ![2] bcast_S64_S1x1x64_2 : (⟨S64, .f32⟩ : BufTy).Contents (Elt F) → (⟨S1x1x64, .f32⟩ : BufTy).Contents (Elt F)),
    unary main_v15 main_v16 (broadcastInDim S4x4096x64 ![0, 1, 2] bcast_S1x1x64_S4x4096x64_0_1_2 : (⟨S1x1x64, .f32⟩ : BufTy).Contents (Elt F) → (⟨S4x4096x64, .f32⟩ : BufTy).Contents (Elt F)),
    binary main_v14 main_v16 main_v17 (addf : (⟨S4x4096x64, .f32⟩ : BufTy).Contents (Elt F) → (⟨S4x4096x64, .f32⟩ : BufTy).Contents (Elt F) → (⟨S4x4096x64, .f32⟩ : BufTy).Contents (Elt F)) ]

/-- The eight greatest of a row, and the table of the places to write. -/
abbrev mTop : List (HloOp τ sig (Elt F)) :=
  [ unary main_v17 main_values ((fun x => (Host.topK S4x4096x8 2 (FloatOps.cmpfTotal .gt) x sliceFits_S4x4096x64_S4x4096x8).1) : (⟨S4x4096x64, .f32⟩ : BufTy).Contents (Elt F) → (⟨S4x4096x8, .f32⟩ : BufTy).Contents (Elt F)),
    unary main_v17 main_indices ((fun x => (Host.topK S4x4096x8 2 (FloatOps.cmpfTotal .gt) x sliceFits_S4x4096x64_S4x4096x8).2) : (⟨S4x4096x64, .f32⟩ : BufTy).Contents (Elt F) → (⟨S4x4096x8, .i32⟩ : BufTy).Contents (Elt F)),
    reshape main_v17 main_v18 (rfl : (.f32 : EltTy) = .f32) shapeCasts_S4x4096x64_S16384x64,
    reshape main_values main_v19 (rfl : (.f32 : EltTy) = .f32) shapeCasts_S4x4096x8_S16384x8,
    reshape main_indices main_v20 (rfl : (.i32 : EltTy) = .i32) shapeCasts_S4x4096x8_S16384x8,
    nullary main_v21 (iotaInDim S16384 32 0),
    unary main_v21 main_v22 (broadcastInDim S16384x1 ![0] bcast_S16384_S16384x1_0 : (⟨S16384, .i32⟩ : BufTy).Contents (Elt F) → (⟨S16384x1, .i32⟩ : BufTy).Contents (Elt F)),
    nullary main_cst_3 (constant S_ .f32 0xFF800000#32),
    unary main_cst_3 main_v23 (broadcastInDim S16384x64 ![] bcast_S_S16384x64 : (⟨S_, .f32⟩ : BufTy).Contents (Elt F) → (⟨S16384x64, .f32⟩ : BufTy).Contents (Elt F)),
    nullary main_c_4 (constantI S_ 32 0#32),
    unary main_c_4 main_v24 (broadcastInDim S16384x1 ![] bcast_S_S16384x1 : (⟨S_, .i32⟩ : BufTy).Contents (Elt F) → (⟨S16384x1, .i32⟩ : BufTy).Contents (Elt F)),
    binary main_v22 main_v24 main_v25 (cmpi .slt : (⟨S16384x1, .i32⟩ : BufTy).Contents (Elt F) → (⟨S16384x1, .i32⟩ : BufTy).Contents (Elt F) → (⟨S16384x1, .i1⟩ : BufTy).Contents (Elt F)),
    nullary main_c_5 (constantI S_ 32 16384#32),
    unary main_c_5 main_v26 (broadcastInDim S16384x1 ![] bcast_S_S16384x1 : (⟨S_, .i32⟩ : BufTy).Contents (Elt F) → (⟨S16384x1, .i32⟩ : BufTy).Contents (Elt F)),
    binary main_v22 main_v26 main_v27 (addi : (⟨S16384x1, .i32⟩ : BufTy).Contents (Elt F) → (⟨S16384x1, .i32⟩ : BufTy).Contents (Elt F) → (⟨S16384x1, .i32⟩ : BufTy).Contents (Elt F)),
    ternary main_v25 main_v27 main_v22 main_v28 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_6 (constantI S_ 32 0#32),
    unary main_c_6 main_v29 (broadcastInDim S16384x8 ![] bcast_S_S16384x8 : (⟨S_, .i32⟩ : BufTy).Contents (Elt F) → (⟨S16384x8, .i32⟩ : BufTy).Contents (Elt F)),
    binary main_v20 main_v29 main_v30 (cmpi .slt : (⟨S16384x8, .i32⟩ : BufTy).Contents (Elt F) → (⟨S16384x8, .i32⟩ : BufTy).Contents (Elt F) → (⟨S16384x8, .i1⟩ : BufTy).Contents (Elt F)),
    nullary main_c_7 (constantI S_ 32 64#32),
    unary main_c_7 main_v31 (broadcastInDim S16384x8 ![] bcast_S_S16384x8 : (⟨S_, .i32⟩ : BufTy).Contents (Elt F) → (⟨S16384x8, .i32⟩ : BufTy).Contents (Elt F)),
    binary main_v20 main_v31 main_v32 (addi : (⟨S16384x8, .i32⟩ : BufTy).Contents (Elt F) → (⟨S16384x8, .i32⟩ : BufTy).Contents (Elt F) → (⟨S16384x8, .i32⟩ : BufTy).Contents (Elt F)),
    ternary main_v30 main_v32 main_v20 main_v33 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F)),
    unary main_v28 main_v34 (broadcastInDim S16384x8 ![0, 1] bcast_S16384x1_S16384x8_0_1 : (⟨S16384x1, .i32⟩ : BufTy).Contents (Elt F) → (⟨S16384x8, .i32⟩ : BufTy).Contents (Elt F)),
    unary main_v34 main_v35 (broadcastInDim S16384x8x1 ![0, 1] bcast_S16384x8_S16384x8x1_0_1 : (⟨S16384x8, .i32⟩ : BufTy).Contents (Elt F) → (⟨S16384x8x1, .i32⟩ : BufTy).Contents (Elt F)),
    unary main_v33 main_v36 (broadcastInDim S16384x8x1 ![0, 1] bcast_S16384x8_S16384x8x1_0_1 : (⟨S16384x8, .i32⟩ : BufTy).Contents (Elt F) → (⟨S16384x8x1, .i32⟩ : BufTy).Contents (Elt F)),
    binary main_v35 main_v36 main_v37 ((fun a b => concatenate S16384x8x2 2 [⟨S16384x8x1, a⟩, ⟨S16384x8x1, b⟩] concatenates_S16384x8x1_S16384x8x1_S16384x8x2_d2) : (⟨S16384x8x1, .i32⟩ : BufTy).Contents (Elt F) → (⟨S16384x8x1, .i32⟩ : BufTy).Contents (Elt F) → (⟨S16384x8x2, .i32⟩ : BufTy).Contents (Elt F)) ]

/-- The eight values written over −∞, and the softmax of the row; up to the exponentials. -/
abbrev mSoft : List (HloOp τ sig (Elt F)) :=
  [ ternary main_v23 main_v37 main_v19 main_v38 ((fun x i u => Host.scatter scatter_S16384x64_S16384x8x2_S16384x8_n_01_01_2 (fun _ b => b) x i u) : (⟨S16384x64, .f32⟩ : BufTy).Contents (Elt F) → (⟨S16384x8x2, .i32⟩ : BufTy).Contents (Elt F) → (⟨S16384x8, .f32⟩ : BufTy).Contents (Elt F) → (⟨S16384x64, .f32⟩ : BufTy).Contents (Elt F)),
    nullary main_cst_8 (constant S_ .f32 0xFF800000#32),
    binary main_v38 main_cst_8 main_v39 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_9 (constant S_ .f32 0xFF800000#32),
    unary main_cst_9 main_v40 (broadcastInDim S16384 ![] bcast_S_S16384 : (⟨S_, .f32⟩ : BufTy).Contents (Elt F) → (⟨S16384, .f32⟩ : BufTy).Contents (Elt F)),
    binary main_v40 main_v39 main_v41 (maximumf : (⟨S16384, .f32⟩ : BufTy).Contents (Elt F) → (⟨S16384, .f32⟩ : BufTy).Contents (Elt F) → (⟨S16384, .f32⟩ : BufTy).Contents (Elt F)),
    unary main_v41 main_v42 (broadcastInDim S16384x1 ![0] bcast_S16384_S16384x1_0 : (⟨S16384, .f32⟩ : BufTy).Contents (Elt F) → (⟨S16384x1, .f32⟩ : BufTy).Contents (Elt F)),
    unary main_v42 main_v43 (broadcastInDim S16384x64 ![0, 1] bcast_S16384x1_S16384x64_0_1 : (⟨S16384x1, .f32⟩ : BufTy).Contents (Elt F) → (⟨S16384x64, .f32⟩ : BufTy).Contents (Elt F)),
    binary main_v38 main_v43 main_v44 (subf : (⟨S16384x64, .f32⟩ : BufTy).Contents (Elt F) → (⟨S16384x64, .f32⟩ : BufTy).Contents (Elt F) → (⟨S16384x64, .f32⟩ : BufTy).Contents (Elt F)),
    unary main_v44 main_v45 (Host.exp : (⟨S16384x64, .f32⟩ : BufTy).Contents (Elt F) → (⟨S16384x64, .f32⟩ : BufTy).Contents (Elt F)) ]

/-- The quotient by the sum, and the result. -/
abbrev mLast : List (HloOp τ sig (Elt F)) :=
  [ nullary main_cst_10 (constant S_ .f32 0x00000000#32),
    binary main_v45 main_cst_10 main_v46 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v46 main_v47 (broadcastInDim S16384x1 ![0] bcast_S16384_S16384x1_0 : (⟨S16384, .f32⟩ : BufTy).Contents (Elt F) → (⟨S16384x1, .f32⟩ : BufTy).Contents (Elt F)),
    unary main_v47 main_v48 (broadcastInDim S16384x64 ![0, 1] bcast_S16384x1_S16384x64_0_1 : (⟨S16384x1, .f32⟩ : BufTy).Contents (Elt F) → (⟨S16384x64, .f32⟩ : BufTy).Contents (Elt F)),
    binary main_v45 main_v48 main_v49 (Host.divf : (⟨S16384x64, .f32⟩ : BufTy).Contents (Elt F) → (⟨S16384x64, .f32⟩ : BufTy).Contents (Elt F) → (⟨S16384x64, .f32⟩ : BufTy).Contents (Elt F)),
    reshape main_v49 main_v50 (rfl : (.f32 : EltTy) = .f32) shapeCasts_S16384x64_S4x4096x64 ]

/-- All of threefry's operations. -/
def tfOps (a0 a1 : TRef sig ⟨S_, .i32⟩) (a2 a3 : TRef sig ⟨S4x4096x64, .i32⟩) (φ : fn_threefry2x32.Bufs) : List (HloOp τ sig (Elt F)) :=
  tfStart a0 a1 a2 a3 φ ++ (tfGroup1 a0 a1 a2 a3 φ ++ (tfGroup2 a0 a1 a2 a3 φ ++ (tfGroup3 a0 a1 a2 a3 φ ++
    (tfGroup4 a0 a1 a2 a3 φ ++ tfGroup5 a0 a1 a2 a3 φ))))

/-- All of the uniform draw's operations. -/
def unOps (a0 : TRef sig ⟨S2, .i32⟩) (a1 a2 : TRef sig ⟨S_, .f32⟩) (φ : fn_uniform.Bufs) : List (HloOp τ sig (Elt F)) :=
  unHead a0 a1 a2 φ ++ (tfOps φ.v5 φ.v7 φ.v22 φ.v21 φ.call0 ++ unTail a0 a1 a2 φ)

/-- All of the reference's operations. -/
def ops : List (HloOp τ sig (Elt F)) :=
  mHead ++ (unOps (.of main_v10) (.of main_cst) (.of main_cst_2) main_call0 ++ (spOps (.of main_v3) main_call1 ++
    (mNoisy ++ (mTop ++ (mSoft ++ mLast)))))

set_option maxRecDepth 16384 in
set_option maxHeartbeats 4000000 in
/-- Threefry's body is its list of operations. -/
theorem tf_eq (a0 a1 : TRef sig ⟨S_, .i32⟩) (a2 a3 : TRef sig ⟨S4x4096x64, .i32⟩) (φ : fn_threefry2x32.Bufs) :
    fn_threefry2x32.body (F := F) a0 a1 a2 a3 φ = seq (tfOps a0 a1 a2 a3 φ) := rfl

set_option maxRecDepth 16384 in
set_option maxHeartbeats 4000000 in
/-- The uniform draw's body is its list of operations. -/
theorem un_eq (a0 : TRef sig ⟨S2, .i32⟩) (a1 a2 : TRef sig ⟨S_, .f32⟩) (φ : fn_uniform.Bufs) :
    fn_uniform.body (F := F) a0 a1 a2 φ = seq (unOps a0 a1 a2 φ) := by
  rw [unOps, seq_append, seq_append, ← tf_eq]
  rfl

set_option maxRecDepth 16384 in
set_option maxHeartbeats 4000000 in
/-- The reference is its list of operations. -/
theorem main_eq (c : Dev nD) : main (F := F) c = seq ops := by
  rw [ops, seq_append, seq_append, ← un_eq]
  rfl

end Cert.RouterRef

end
-- ==== Proof.RefRun.lean ====
/-
  The reference's run: every weakly fair execution ends with each buffer as its operations leave it, the arguments unchanged
  and every counter at zero.
-/
module

public import proofs.«01_k».proof.Proof.RefOps
public import Idealize.ShloMosaic.Lib.StableHlo.RunRead
public import Idealize.ShloMosaic.Lib.Quiescent

@[expose] public section

set_option Elab.async false

noncomputable section

namespace Cert.RouterRef

open Cert.ReferenceIdeal Cert.ReferenceIdeal.Gen Idealize.ShloMosaic Idealize.ShloMosaic.TcCoe Idealize.SL.Sem Idealize.ShloMosaic.StableHlo

variable {F : FTy → Type} [FloatOps F]

/-- The reference scopes no buffer. -/
theorem scopedRefs_eq : (Finset.univ.filter fun b : Ref sig .tc => b.isScoped) = ∅ := by decide
/-- The reference scopes no semaphore. -/
theorem scopedSems_eq : (Finset.univ.filter fun sm : SemLoc sig => sm.isScoped .tc) = ∅ := by decide

/-- An operation that touches TensorCore buffers alone and allocates none. -/
def Plain (op : HloOp τ sig (Elt F)) : Prop := op.bufs ⊆ tcRefs τ sig ∧ op.fresh = ∅

/-- An operation with no operand is plain. -/
theorem plain_nullary (y : Ref sig .tc) (v : y.ty.Contents (Elt F)) (hy) : Plain (nullary (τ := τ) y v hy) :=
  ⟨nullary_bufs_sub .., rfl⟩
/-- An operation with one operand is plain. -/
theorem plain_unary (x y : Ref sig .tc) (f : x.ty.Contents (Elt F) → y.ty.Contents (Elt F)) (hx hy) :
    Plain (unary (τ := τ) x y f hx hy) := ⟨unary_bufs_sub .., rfl⟩
/-- An operation with two operands is plain. -/
theorem plain_binary (a b y : Ref sig .tc) (f : a.ty.Contents (Elt F) → b.ty.Contents (Elt F) → y.ty.Contents (Elt F)) (ha hb hy) :
    Plain (binary (τ := τ) a b y f ha hb hy) := ⟨binary_bufs_sub .., rfl⟩
/-- An operation with three operands is plain. -/
theorem plain_ternary (c a b y : Ref sig .tc) (f : c.ty.Contents (Elt F) → a.ty.Contents (Elt F) → b.ty.Contents (Elt F) → y.ty.Contents (Elt F)) (hc ha hb hy) :
    Plain (ternary (τ := τ) c a b y f hc ha hb hy) := ⟨ternary_bufs_sub .., rfl⟩
/-- A reshape is plain. -/
theorem plain_reshape (x y : Ref sig .tc) (he hn hx hy) : Plain (F := F) (reshape (τ := τ) x y he hn hx hy) :=
  ⟨reshape_bufs_sub .., rfl⟩

/-- An operation of a called function with no operand is plain. -/
theorem plain_nullary' {T : BufTy} (y : TRef sig T) (v : T.Contents (Elt F)) : Plain (TRef.nullary (τ := τ) y v) := plain_nullary ..
/-- An operation of a called function with one operand is plain. -/
theorem plain_unary' {T U : BufTy} (x : TRef sig T) (y : TRef sig U) (f : T.Contents (Elt F) → U.Contents (Elt F)) :
    Plain (TRef.unary (τ := τ) x y f) := plain_unary ..
/-- An operation of a called function with two operands is plain. -/
theorem plain_binary' {A B T : BufTy} (a : TRef sig A) (b : TRef sig B) (y : TRef sig T)
    (f : A.Contents (Elt F) → B.Contents (Elt F) → T.Contents (Elt F)) : Plain (TRef.binary (τ := τ) a b y f) := plain_binary ..

set_option maxRecDepth 16384 in
/-- Threefry's operations are plain. -/
theorem tf_plain (a0 a1 : TRef sig ⟨S_, .i32⟩) (a2 a3 : TRef sig ⟨S4x4096x64, .i32⟩) (φ : fn_threefry2x32.Bufs) :
    ∀ o ∈ (tfOps a0 a1 a2 a3 φ : List (HloOp τ sig (Elt F))), Plain o := by
  simp (maxSteps := 1000000) only [tfOps, List.forall_mem_append, List.forall_mem_cons, plain_nullary', plain_unary', plain_binary', plain_nullary, plain_unary, plain_binary, plain_ternary, plain_reshape, and_true, List.not_mem_nil, false_implies, implies_true]

set_option maxRecDepth 16384 in
/-- Every operation of the reference is plain. -/
theorem ops_plain : ∀ o ∈ (ops : List (HloOp τ sig (Elt F))), Plain o := by
  simp (maxSteps := 1000000) only [ops, unOps, List.forall_mem_append, List.forall_mem_cons, plain_nullary', plain_unary', plain_binary', plain_nullary, plain_unary, plain_binary, plain_ternary, plain_reshape, and_true, List.not_mem_nil, false_implies, implies_true]
  exact ⟨trivial, trivial, tf_plain _ _ _ _ _⟩

/-- The reference's run: every buffer of a device ends as the operations leave it, and every counter at zero. -/
theorem run_ops (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq
    (fun _ => List.forall_iff_forall_mem.mpr fun o h => (ops_plain o h).1) m ρ fun _ o h => (ops_plain o h).2

/-- What threefry's start writes. -/
abbrev tfStartW : List (Ref sig .tc) := [main_call0_call0_v0, main_call0_call0_c, main_call0_call0_v1, main_call0_call0_v2, main_call0_call0_v3, main_call0_call0_v4, main_call0_call0_v5]
/-- A buffer that threefry's start does not write keeps its contents. -/
theorem tfStart_keep (V : Valuation τ sig (Elt F)) {r : Ref sig .tc} (h : r ∉ tfStartW) :
    after (tfStart main_call0.v5 main_call0.v7 main_call0.v22 main_call0.v21 main_call0_call0) V (Proc.devRef .tc r) = V (Proc.devRef .tc r) :=
  after_of_writes_sub _ _ (forall_writes_sub_of_map rfl) h

/-- What threefry's group 1 writes. -/
abbrev tfGroup1W : List (Ref sig .tc) := [main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39]
/-- A buffer that threefry's group 1 does not write keeps its contents. -/
theorem tfGroup1_keep (V : Valuation τ sig (Elt F)) {r : Ref sig .tc} (h : r ∉ tfGroup1W) :
    after (tfGroup1 main_call0.v5 main_call0.v7 main_call0.v22 main_call0.v21 main_call0_call0) V (Proc.devRef .tc r) = V (Proc.devRef .tc r) :=
  after_of_writes_sub _ _ (forall_writes_sub_of_map rfl) h

/-- What threefry's group 2 writes. -/
abbrev tfGroup2W : List (Ref sig .tc) := [main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73]
/-- A buffer that threefry's group 2 does not write keeps its contents. -/
theorem tfGroup2_keep (V : Valuation τ sig (Elt F)) {r : Ref sig .tc} (h : r ∉ tfGroup2W) :
    after (tfGroup2 main_call0.v5 main_call0.v7 main_call0.v22 main_call0.v21 main_call0_call0) V (Proc.devRef .tc r) = V (Proc.devRef .tc r) :=
  after_of_writes_sub _ _ (forall_writes_sub_of_map rfl) h

/-- What threefry's group 3 writes. -/
abbrev tfGroup3W : List (Ref sig .tc) := [main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107]
/-- A buffer that threefry's group 3 does not write keeps its contents. -/
theorem tfGroup3_keep (V : Valuation τ sig (Elt F)) {r : Ref sig .tc} (h : r ∉ tfGroup3W) :
    after (tfGroup3 main_call0.v5 main_call0.v7 main_call0.v22 main_call0.v21 main_call0_call0) V (Proc.devRef .tc r) = V (Proc.devRef .tc r) :=
  after_of_writes_sub _ _ (forall_writes_sub_of_map rfl) h

/-- What threefry's group 4 writes. -/
abbrev tfGroup4W : List (Ref sig .tc) := [main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141]
/-- A buffer that threefry's group 4 does not write keeps its contents. -/
theorem tfGroup4_keep (V : Valuation τ sig (Elt F)) {r : Ref sig .tc} (h : r ∉ tfGroup4W) :
    after (tfGroup4 main_call0.v5 main_call0.v7 main_call0.v22 main_call0.v21 main_call0_call0) V (Proc.devRef .tc r) = V (Proc.devRef .tc r) :=
  after_of_writes_sub _ _ (forall_writes_sub_of_map rfl) h

/-- What threefry's group 5 writes. -/
abbrev tfGroup5W : List (Ref sig .tc) := [main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v23_0, main_call0_call0_v172, main_call0_call0_v173, main_call0_call0_c_44, main_call0_call0_v174, main_call0_v23_1]
/-- A buffer that threefry's group 5 does not write keeps its contents. -/
theorem tfGroup5_keep (V : Valuation τ sig (Elt F)) {r : Ref sig .tc} (h : r ∉ tfGroup5W) :
    after (tfGroup5 main_call0.v5 main_call0.v7 main_call0.v22 main_call0.v21 main_call0_call0) V (Proc.devRef .tc r) = V (Proc.devRef .tc r) :=
  after_of_writes_sub _ _ (forall_writes_sub_of_map rfl) h

/-- What the draw's counts writes. -/
abbrev unHeadW : List (Ref sig .tc) := [main_call0_v0, main_call0_v1, main_call0_v2, main_call0_v3, main_call0_v4, main_call0_v5, main_call0_v6, main_call0_v7, main_call0_v8, main_call0_v9, main_call0_v10, main_call0_c, main_call0_v11, main_call0_v12, main_call0_c_0, main_call0_v13, main_call0_v14, main_call0_c_1, main_call0_v15, main_call0_v16, main_call0_v17, main_call0_v18, main_call0_c_2, main_call0_v19, main_call0_v20, main_call0_v21, main_call0_v22]
/-- A buffer that the draw's counts does not write keeps its contents. -/
theorem unHead_keep (V : Valuation τ sig (Elt F)) {r : Ref sig .tc} (h : r ∉ unHeadW) :
    after (unHead (.of main_v10) (.of main_cst) (.of main_cst_2) main_call0) V (Proc.devRef .tc r) = V (Proc.devRef .tc r) :=
  after_of_writes_sub _ _ (forall_writes_sub_of_map rfl) h

/-- What the draw's last part writes. -/
abbrev unTailW : List (Ref sig .tc) := [main_call0_v24, main_call0_c_3, main_call0_v25, main_call0_v26, main_call0_c_4, main_call0_v27, main_call0_v28, main_call0_v29, main_call0_cst, main_call0_v30, main_call0_v31, main_call0_v32, main_call0_v33, main_call0_v34, main_call0_v35, main_call0_v36, main_call0_v37, main_v11]
/-- A buffer that the draw's last part does not write keeps its contents. -/
theorem unTail_keep (V : Valuation τ sig (Elt F)) {r : Ref sig .tc} (h : r ∉ unTailW) :
    after (unTail (.of main_v10) (.of main_cst) (.of main_cst_2) main_call0) V (Proc.devRef .tc r) = V (Proc.devRef .tc r) :=
  after_of_writes_sub _ _ (forall_writes_sub_of_map rfl) h

/-- What softplus writes. -/
abbrev spOpsW : List (Ref sig .tc) := [main_call1_cst, main_call1_v0, main_call1_v1, main_call1_v2, main_call1_v3, main_call1_v4, main_call1_v5, main_call1_v6, main_call1_v7, main_call1_v8, main_call1_v9, main_call1_v10, main_call1_v11, main_v12]
/-- A buffer that softplus does not write keeps its contents. -/
theorem spOps_keep (V : Valuation τ sig (Elt F)) {r : Ref sig .tc} (h : r ∉ spOpsW) :
    after (spOps (.of main_v3) main_call1) V (Proc.devRef .tc r) = V (Proc.devRef .tc r) :=
  after_of_writes_sub _ _ (forall_writes_sub_of_map rfl) h

/-- What the products writes. -/
abbrev mHeadW : List (Ref sig .tc) := [main_v0, main_v1, main_v2, main_v3, main_c, main_c_0, main_v4, main_v5, main_v6, main_c_1, main_v7, main_v8, main_v9, main_v10, main_cst, main_cst_2]
/-- A buffer that the products does not write keeps its contents. -/
theorem mHead_keep (V : Valuation τ sig (Elt F)) {r : Ref sig .tc} (h : r ∉ mHeadW) :
    after (mHead) V (Proc.devRef .tc r) = V (Proc.devRef .tc r) :=
  after_of_writes_sub _ _ (forall_writes_sub_of_map rfl) h

/-- What the sum writes. -/
abbrev mNoisyW : List (Ref sig .tc) := [main_v13, main_v14, main_v15, main_v16, main_v17]
/-- A buffer that the sum does not write keeps its contents. -/
theorem mNoisy_keep (V : Valuation τ sig (Elt F)) {r : Ref sig .tc} (h : r ∉ mNoisyW) :
    after (mNoisy) V (Proc.devRef .tc r) = V (Proc.devRef .tc r) :=
  after_of_writes_sub _ _ (forall_writes_sub_of_map rfl) h

/-- What the selection writes. -/
abbrev mTopW : List (Ref sig .tc) := [main_values, main_indices, main_v18, main_v19, main_v20, main_v21, main_v22, main_cst_3, main_v23, main_c_4, main_v24, main_v25, main_c_5, main_v26, main_v27, main_v28, main_c_6, main_v29, main_v30, main_c_7, main_v31, main_v32, main_v33, main_v34, main_v35, main_v36, main_v37]
/-- A buffer that the selection does not write keeps its contents. -/
theorem mTop_keep (V : Valuation τ sig (Elt F)) {r : Ref sig .tc} (h : r ∉ mTopW) :
    after (mTop) V (Proc.devRef .tc r) = V (Proc.devRef .tc r) :=
  after_of_writes_sub _ _ (forall_writes_sub_of_map rfl) h

/-- What the exponentials writes. -/
abbrev mSoftW : List (Ref sig .tc) := [main_v38, main_cst_8, main_v39, main_cst_9, main_v40, main_v41, main_v42, main_v43, main_v44, main_v45]
/-- A buffer that the exponentials does not write keeps its contents. -/
theorem mSoft_keep (V : Valuation τ sig (Elt F)) {r : Ref sig .tc} (h : r ∉ mSoftW) :
    after (mSoft) V (Proc.devRef .tc r) = V (Proc.devRef .tc r) :=
  after_of_writes_sub _ _ (forall_writes_sub_of_map rfl) h

/-- What the quotient writes. -/
abbrev mLastW : List (Ref sig .tc) := [main_cst_10, main_v46, main_v47, main_v48, main_v49, main_v50]
/-- A buffer that the quotient does not write keeps its contents. -/
theorem mLast_keep (V : Valuation τ sig (Elt F)) {r : Ref sig .tc} (h : r ∉ mLastW) :
    after (mLast) V (Proc.devRef .tc r) = V (Proc.devRef .tc r) :=
  after_of_writes_sub _ _ (forall_writes_sub_of_map rfl) h

/-- The whole line, window by window. -/
theorem after_ops (V : Valuation τ sig (Elt F)) : after ops V =
    after mLast (after mSoft (after mTop (after mNoisy (after (spOps (.of main_v3) main_call1)
      (after (unOps (.of main_v10) (.of main_cst) (.of main_cst_2) main_call0) (after mHead V)))))) := by
  simp only [ops, after_append]

/-- The draw's line, window by window. -/
theorem after_un (V : Valuation τ sig (Elt F)) : after (unOps (.of main_v10) (.of main_cst) (.of main_cst_2) main_call0) V =
    after (unTail (.of main_v10) (.of main_cst) (.of main_cst_2) main_call0)
      (after (tfGroup5 main_call0.v5 main_call0.v7 main_call0.v22 main_call0.v21 main_call0_call0)
      (after (tfGroup4 main_call0.v5 main_call0.v7 main_call0.v22 main_call0.v21 main_call0_call0)
      (after (tfGroup3 main_call0.v5 main_call0.v7 main_call0.v22 main_call0.v21 main_call0_call0)
      (after (tfGroup2 main_call0.v5 main_call0.v7 main_call0.v22 main_call0.v21 main_call0_call0)
      (after (tfGroup1 main_call0.v5 main_call0.v7 main_call0.v22 main_call0.v21 main_call0_call0)
      (after (tfStart main_call0.v5 main_call0.v7 main_call0.v22 main_call0.v21 main_call0_call0)
      (after (unHead (.of main_v10) (.of main_cst) (.of main_cst_2) main_call0) V))))))) := by
  simp only [unOps, tfOps, after_append]

/-- A buffer that the draw does not write keeps its contents. -/
theorem un_keep (V : Valuation τ sig (Elt F)) {r : Ref sig .tc} (h0 : r ∉ unHeadW) (h1 : r ∉ tfStartW) (h2 : r ∉ tfGroup1W)
    (h3 : r ∉ tfGroup2W) (h4 : r ∉ tfGroup3W) (h5 : r ∉ tfGroup4W) (h6 : r ∉ tfGroup5W) (h7 : r ∉ unTailW) :
    after (unOps (.of main_v10) (.of main_cst) (.of main_cst_2) main_call0) V (Proc.devRef .tc r) = V (Proc.devRef .tc r) := by
  rw [after_un, unTail_keep _ h7, tfGroup5_keep _ h6, tfGroup4_keep _ h5, tfGroup3_keep _ h4, tfGroup2_keep _ h3,
    tfGroup1_keep _ h2, tfStart_keep _ h1, unHead_keep _ h0]

/-- The reference leaves a buffer that no operation writes as it was. -/
theorem ops_keep (V : Valuation τ sig (Elt F)) {r : Ref sig .tc} (h0 : r ∉ unHeadW) (h1 : r ∉ tfStartW) (h2 : r ∉ tfGroup1W)
    (h3 : r ∉ tfGroup2W) (h4 : r ∉ tfGroup3W) (h5 : r ∉ tfGroup4W) (h6 : r ∉ tfGroup5W) (h7 : r ∉ unTailW)
    (g : r ∉ mHeadW ++ spOpsW ++ mNoisyW ++ mTopW ++ mSoftW ++ mLastW) :
    after ops V (Proc.devRef .tc r) = V (Proc.devRef .tc r) := by
  simp only [List.mem_append, not_or] at g
  rw [after_ops, mLast_keep _ g.2, mSoft_keep _ g.1.2, mTop_keep _ g.1.1.2, mNoisy_keep _ g.1.1.1.2, spOps_keep _ g.1.1.1.1.2,
    un_keep _ h0 h1 h2 h3 h4 h5 h6 h7, mHead_keep _ g.1.1.1.1.1]

set_option maxRecDepth 16384 in
/-- The reference's operations leave its four arguments as they were. -/
theorem args_keep (V : Valuation τ sig (Elt F)) :
    after ops V (Proc.devRef .tc main_arg0) = V (Proc.devRef .tc main_arg0) ∧ after ops V (Proc.devRef .tc main_arg1) = V (Proc.devRef .tc main_arg1)
    ∧ after ops V (Proc.devRef .tc main_arg2) = V (Proc.devRef .tc main_arg2) ∧ after ops V (Proc.devRef .tc main_arg3) = V (Proc.devRef .tc main_arg3) :=
  ⟨ops_keep _ (by decide) (by decide) (by decide) (by decide) (by decide) (by decide) (by decide) (by decide) (by decide),
    ops_keep _ (by decide) (by decide) (by decide) (by decide) (by decide) (by decide) (by decide) (by decide) (by decide),
    ops_keep _ (by decide) (by decide) (by decide) (by decide) (by decide) (by decide) (by decide) (by decide) (by decide),
    ops_keep _ (by decide) (by decide) (by decide) (by decide) (by decide) (by decide) (by decide) (by decide) (by decide)⟩

/-- The reference runs, its arguments end unchanged, and every counter at zero. -/
theorem quiescent (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨
      (h c main_arg0).trans (args_keep _).1,
      (h c main_arg1).trans (args_keep _).2.1,
      (h c main_arg2).trans (args_keep _).2.2.1,
      (h c main_arg3).trans (args_keep _).2.2.2⟩,
      sem_eq_zero_of_no_sems (by decide) _⟩)
    (run_ops m ρ)

end Cert.RouterRef

end
-- ==== Proof.Bits.lean ====
/-
  The counter-based generator on one counter, over 32-bit words: four rounds, the key words added, five times over; and the two
  words folded into one. Key words 0 and 42, as `jax.random.key(42)` gives them.
-/
module

public import Idealize.ShloMosaic.PureOps

@[expose] public section

namespace Cert.Router

open Idealize.ShloMosaic

/-- One round: the sum, and the second word rotated (left by `l`, `r` the complement) against it. -/
def mix (l r : ℕ) (p : BitVec 32 × BitVec 32) : BitVec 32 × BitVec 32 :=
  (p.1 + p.2, (p.1 + p.2) ^^^ (p.2 <<< l ||| p.2 >>> r))

/-- Four rounds with the first four rotations. -/
def mixA (p : BitVec 32 × BitVec 32) : BitVec 32 × BitVec 32 := mix 6 26 (mix 26 6 (mix 15 17 (mix 13 19 p)))

/-- Four rounds with the other four rotations. -/
def mixB (p : BitVec 32 × BitVec 32) : BitVec 32 × BitVec 32 := mix 24 8 (mix 16 16 (mix 29 3 (mix 17 15 p)))

/-- Two words added. -/
def inj (a b : BitVec 32) (p : BitVec 32 × BitVec 32) : BitVec 32 × BitVec 32 := (p.1 + a, p.2 + b)

/-- The generator's two words of a counter. -/
def words (p : BitVec 32 × BitVec 32) : BitVec 32 × BitVec 32 :=
  inj 466689008#32 5#32 (mixA (inj 42#32 466689012#32 (mixB (inj 0#32 45#32 (mixA (inj 466689008#32 2#32 (mixB
    (inj 42#32 466689009#32 (mixA p)))))))))

/-- The word of the `n`-th draw. -/
def word (n : BitVec 32) : BitVec 32 := (words (0#32, n + 42#32)).1 ^^^ (words (0#32, n + 42#32)).2

/-- A shift by less than the width, whatever unit makes it. -/
theorem shli_lit (u : ArithUnit) (x y : BitVec 32) (h : y.toNat < 32) : IntOp.shli u x y = x <<< y.toNat := by
  rw [IntOp.shli, if_pos h]; rfl

/-- A right shift by less than the width, whatever unit makes it. -/
theorem shrui_lit (u : ArithUnit) (x y : BitVec 32) (h : y.toNat < 32) : IntOp.shrui u x y = x >>> y.toNat := by
  rw [IntOp.shrui, if_pos h]; rfl

end Cert.Router
-- ==== Proof.KBits.lean ====
/-
  The words the kernel's body draws: the generator's rounds over a block of counters, and the word of each place.
-/
module

public import proofs.«01_k».proof.Proof.Bits
public import proofs.«01_k».proof.Proof.Gen.KernelIdeal.Frame
public import Idealize.ShloMosaic.Lib.Pointwise.Index

@[expose] public section

set_option Elab.async false

noncomputable section

namespace Cert.RouterKernel

open Cert.KernelIdeal Cert.KernelIdeal.Gen Idealize.ShloMosaic Cert.Router

/-- A block of words. -/
local notation "Wrd" => IVec S64x1024 32

/-- A block of words rotated. -/
def rotK (l r : BitVec 32) (x : Wrd) : Wrd := ori (shli x (broadcast S64x1024 l)) (shrui x (broadcast S64x1024 r))
/-- One round over a block. -/
def mixK (l r : BitVec 32) (p : Wrd × Wrd) : Wrd × Wrd := (addi p.1 p.2, xori (rotK l r p.2) (addi p.1 p.2))
/-- Two words added everywhere. -/
def injK (a b : BitVec 32) (p : Wrd × Wrd) : Wrd × Wrd := (addi p.1 (broadcast S64x1024 a), addi p.2 (broadcast S64x1024 b))
/-- The first four rotations over a block. -/
def mixAK (p : Wrd × Wrd) : Wrd × Wrd := mixK 6#32 26#32 (mixK 26#32 6#32 (mixK 15#32 17#32 (mixK 13#32 19#32 p)))
/-- The other four rotations over a block. -/
def mixBK (p : Wrd × Wrd) : Wrd × Wrd := mixK 24#32 8#32 (mixK 16#32 16#32 (mixK 29#32 3#32 (mixK 17#32 15#32 p)))

/-- One mixing round of the kernel, at a place, is the round on the two words there. -/
theorem mixK_at (l r : BitVec 32) (hl : l.toNat < 32) (hr : r.toNat < 32) (p : Wrd × Wrd) (j : S64x1024.Idx) :
    ((mixK l r p).1 j, (mixK l r p).2 j) = mix l.toNat r.toNat (p.1 j, p.2 j) := by
  show (p.1 j + p.2 j, (IntOp.shli _ (p.2 j) l ||| IntOp.shrui _ (p.2 j) r) ^^^ (p.1 j + p.2 j)) = _
  rw [shli_lit _ _ _ hl, shrui_lit _ _ _ hr, BitVec.xor_comm]; rfl

/-- Adding the two key words, at a place, is adding them to the two words there. -/
theorem injK_at (a b : BitVec 32) (p : Wrd × Wrd) (j : S64x1024.Idx) : ((injK a b p).1 j, (injK a b p).2 j) = inj a b (p.1 j, p.2 j) := rfl

/-- Four rounds with the first rotations, at a place. -/
theorem mixAK_at (p : Wrd × Wrd) (j : S64x1024.Idx) : ((mixAK p).1 j, (mixAK p).2 j) = mixA (p.1 j, p.2 j) := by
  unfold mixAK
  rw [mixK_at _ _ (by decide) (by decide), mixK_at _ _ (by decide) (by decide), mixK_at _ _ (by decide) (by decide),
    mixK_at _ _ (by decide) (by decide)]; rfl

/-- Four rounds with the second rotations, at a place. -/
theorem mixBK_at (p : Wrd × Wrd) (j : S64x1024.Idx) : ((mixBK p).1 j, (mixBK p).2 j) = mixB (p.1 j, p.2 j) := by
  unfold mixBK
  rw [mixK_at _ _ (by decide) (by decide), mixK_at _ _ (by decide) (by decide), mixK_at _ _ (by decide) (by decide),
    mixK_at _ _ (by decide) (by decide)]; rfl

/-- The generator over a block of counters. -/
def wordsK (n : Wrd) : Wrd × Wrd :=
  injK 466689008#32 5#32 (mixAK (injK 42#32 466689012#32 (mixBK (injK 0#32 45#32 (mixAK (injK 466689008#32 2#32 (mixBK
    (injK 42#32 466689009#32 (mixAK (broadcast S64x1024 0#32, n))))))))))

/-- The whole generator, at a place, is the generator on that place's counter. -/
theorem wordsK_at (n : Wrd) (j : S64x1024.Idx) : ((wordsK n).1 j, (wordsK n).2 j) = words (0#32, n j) := by
  unfold wordsK words
  rw [injK_at, mixAK_at, injK_at, mixBK_at, injK_at, mixAK_at, injK_at, mixBK_at, injK_at, mixAK_at]
  rfl

section start
variable (i : grid0.Coords)
/-- The named values at the kernel's round 1 are that round of the values before. -/
theorem round1 : (k0_pay6 i, k0_pay7 i) = mixK 13#32 19#32 (broadcast S64x1024 0#32, k0_pay5 i) := rfl
/-- The named values at the kernel's round 2 are that round of the values before. -/
theorem round2 : (k0_pay8 i, k0_pay9 i) = mixK 15#32 17#32 (k0_pay6 i, k0_pay7 i) := rfl
/-- The named values at the kernel's round 3 are that round of the values before. -/
theorem round3 : (k0_pay10 i, k0_pay11 i) = mixK 26#32 6#32 (k0_pay8 i, k0_pay9 i) := rfl
end start

/-- A value of the body's second part, over what the first hands on. -/
abbrev mid (p : Wrd × Wrd) (f : Wrd → Wrd → Wrd → BitVec 32 → Wrd) : Wrd := f p.2 (addi p.1 p.2) (shli p.2 (broadcast S64x1024 6#32)) 26#32
/-- A value of the body's third part, over what the second hands on. -/
abbrev late (q : Wrd × Wrd) (f : Wrd → Wrd → Wrd) : Wrd := f (addi q.1 q.2) (rotK 13#32 19#32 q.2)

section middle
variable (p : Wrd × Wrd)
/-- The named values at the kernel's round 5 are that round of the values before. -/
theorem round5 : (mid p k0_pay15, mid p k0_pay16) = mixK 17#32 15#32 (injK 42#32 466689009#32 (mixK 6#32 26#32 p)) := rfl
/-- The named values at the kernel's round 6 are that round of the values before. -/
theorem round6 : (mid p k0_pay17, mid p k0_pay18) = mixK 29#32 3#32 (mid p k0_pay15, mid p k0_pay16) := rfl
/-- The named values at the kernel's round 7 are that round of the values before. -/
theorem round7 : (mid p k0_pay19, mid p k0_pay20) = mixK 16#32 16#32 (mid p k0_pay17, mid p k0_pay18) := rfl
/-- The named values at the kernel's round 8 are that round of the values before. -/
theorem round8 : (mid p k0_pay23, mid p k0_pay24) = (fun q : Wrd × Wrd => (addi q.1 q.2, rotK 13#32 19#32 q.2))
    (injK 466689008#32 2#32 (mixK 24#32 8#32 (mid p k0_pay19, mid p k0_pay20))) := rfl
end middle

section late
variable (q : Wrd × Wrd)
/-- The named values at the kernel's round 10 are that round of the values before. -/
theorem round10 : (late q k0_pay26, late q k0_pay27) = mixK 15#32 17#32 (mixK 13#32 19#32 q) := rfl
/-- The named values at the kernel's round 11 are that round of the values before. -/
theorem round11 : (late q k0_pay28, late q k0_pay29) = mixK 26#32 6#32 (late q k0_pay26, late q k0_pay27) := rfl
/-- The named values at the kernel's round 12 are that round of the values before. -/
theorem round12 : (late q k0_pay32, late q k0_pay33) = mixK 17#32 15#32 (injK 0#32 45#32 (mixK 6#32 26#32 (late q k0_pay28, late q k0_pay29))) := rfl
/-- The named values at the kernel's round 14 are that round of the values before. -/
theorem round14 : (late q k0_pay36, late q k0_pay37) = (fun r : Wrd × Wrd => (addi r.1 r.2, rotK 16#32 16#32 r.2))
    (mixK 29#32 3#32 (late q k0_pay32, late q k0_pay33)) := rfl
end late

/-- The last rounds and the fold of the two words. -/
theorem round15 (r : Wrd × Wrd) : k0_pay38 (addi r.1 r.2) (rotK 16#32 16#32 r.2) = (fun s : Wrd × Wrd => xori s.1 s.2)
    (injK 466689008#32 5#32 (mixAK (injK 42#32 466689012#32 (mixK 24#32 8#32 (mixK 16#32 16#32 r))))) := rfl

/-- The block of words the body draws is the generator over its block of counters. -/
theorem pay85_eq {F : FTy → Type} [FloatOps F] (i : grid0.Coords) (x0 : Vec F S1024x4096 .f32) (x1 : Vec F S128x4096 .f32) (x2 : Vec F S64x1 .f32) :
    k0_pay85 i x0 x1 x2 = xori (wordsK (k0_pay5 i)).1 (wordsK (k0_pay5 i)).2 := by
  let p := mixK 26#32 6#32 (mixK 15#32 17#32 (mixK 13#32 19#32 (broadcast S64x1024 0#32, k0_pay5 i)))
  let q := injK 466689008#32 2#32 (mixBK (injK 42#32 466689009#32 (mixK 6#32 26#32 p)))
  let r := mixK 29#32 3#32 (mixK 17#32 15#32 (injK 0#32 45#32 (mixAK q)))
  have hp : (k0_pay10 i, k0_pay11 i) = p := by rw [round3, round2, round1]
  have hq : (k0_pay83 i x0 x1 x2, k0_pay84 i x0 x1 x2) = (addi q.1 q.2, rotK 13#32 19#32 q.2) := by
    have h : (k0_pay83 i x0 x1 x2, k0_pay84 i x0 x1 x2) = (fun p : Wrd × Wrd => (mid p k0_pay23, mid p k0_pay24)) (k0_pay10 i, k0_pay11 i) := rfl
    rw [h, hp]
    refine (round8 p).trans ?_
    rw [round7, round6, round5]
    rfl
  have hr : (k0_pay36 (k0_pay83 i x0 x1 x2) (k0_pay84 i x0 x1 x2), k0_pay37 (k0_pay83 i x0 x1 x2) (k0_pay84 i x0 x1 x2)) =
      (addi r.1 r.2, rotK 16#32 16#32 r.2) := by
    have h := congrArg (fun p : Wrd × Wrd => (k0_pay36 p.1 p.2, k0_pay37 p.1 p.2)) hq
    refine h.trans ((round14 q).trans ?_)
    rw [round12, round11, round10]
    rfl
  exact (congrArg (fun p : Wrd × Wrd => k0_pay38 p.1 p.2) hr).trans (round15 r)

/-- The counter of a place. -/
theorem pay5_at (i : grid0.Coords) (e : Fin 64) (t : Fin 1024) :
    k0_pay5 i (ix2 e t) = BitVec.ofNat 32 (((i 0).val * 1024 + t.val) * 64 + e.val) + 42#32 := by
  have h : k0_pay5 i (ix2 e t) = (BitVec.ofNat 32 (i 0).val * 1024#32 + BitVec.ofNat 32 (0 * 1024 + t.val)) * 64#32
    + BitVec.ofNat 32 (0 * 64 + e.val) + 42#32 := rfl
  simp only [Nat.zero_mul, Nat.zero_add] at h
  rw [h, BitVec.ofNat_add, BitVec.ofNat_mul, BitVec.ofNat_add, BitVec.ofNat_mul]

/-- The word of a place. -/
theorem pay85_at {F : FTy → Type} [FloatOps F] (i : grid0.Coords) (x0 : Vec F S1024x4096 .f32) (x1 : Vec F S128x4096 .f32) (x2 : Vec F S64x1 .f32)
    (e : Fin 64) (t : Fin 1024) :
    k0_pay85 i x0 x1 x2 (ix2 e t) = word (BitVec.ofNat 32 (((i 0).val * 1024 + t.val) * 64 + e.val)) := by
  rw [pay85_eq]
  have h := congrArg (fun p : BitVec 32 × BitVec 32 => p.1 ^^^ p.2) (wordsK_at (k0_pay5 i) (ix2 e t))
  rw [pay5_at] at h
  exact h

end Cert.RouterKernel

end
-- ==== Proof.TopK.lean ====
/-
  Eight selections of the largest entry, ties to the least position, as the first eight of the stable descending sort.
-/
module

public import Idealize.ShloMosaic.Lib.SortPrefix
public import Idealize.ShloMosaic.PureOps.Ideal

@[expose] public section

noncomputable section

namespace Cert.Router

open Idealize.ShloMosaic

/-- The stable sort of an ascending list by a comparator of keys is the sort by the key and then the position. -/
theorem stableSort_key {n : ℕ} (R : Fin n → Fin n → Bool) (E : Fin n → Fin n → Bool) (l : List (Fin n))
    (hl : l.Pairwise (· < ·)) :
    stableSort R l = stableSort (fun k k' => R k k' || (E k k' && decide (k < k'))) l := by
  induction l with
  | nil => rfl
  | cons a l ih =>
    rw [List.pairwise_cons] at hl
    unfold stableSort
    rw [← ih hl.2]
    refine insertBefore_congr _ _ _ _ fun b hb => ?_
    have hab : a < b := hl.1 b ((perm_stableSort R l).mem_iff.mp hb)
    have : decide (b < a) = false := decide_eq_false (not_lt.mpr hab.le)
    simp [this]

/-- The sorting permutation of a comparator of keys is that of the key and then the position. -/
theorem sortedFrom_key {n : ℕ} (R E : Fin n → Fin n → Bool) :
    sortedFrom R = sortedFrom (fun k k' => R k k' || (E k k' && decide (k < k'))) := by
  funext k
  unfold sortedFrom
  have h : sortPositions n R = sortPositions n (fun k k' => R k k' || (E k k' && decide (k < k'))) :=
    stableSort_key R E _ (List.pairwise_lt_finRange n)
  rw [List.get_of_eq h]
  rfl

/-- `p` is the least position at which `w` is largest. -/
def IsPick {n : ℕ} (w : Fin n → EReal) (p : Fin n) : Prop := (∀ k, w k ≤ w p) ∧ ∀ k, w k = w p → p ≤ k

/-- There is at most one selected position. -/
theorem IsPick.unique {n : ℕ} {w : Fin n → EReal} {p q : Fin n} (hp : IsPick w p) (hq : IsPick w q) : p = q :=
  le_antisymm (hp.2 q (le_antisymm (hp.1 q) (hq.1 p))) (hq.2 p (le_antisymm (hq.1 p) (hp.1 q)))

/-- There is a selected position. -/
theorem exists_isPick (w : Fin 64 → EReal) : ∃ p, IsPick w p := by
  classical
  obtain ⟨q, hq⟩ := Finite.exists_max w
  have hne : (Finset.univ.filter fun k => w k = w q).Nonempty := ⟨q, by simp⟩
  refine ⟨(Finset.univ.filter fun k => w k = w q).min' hne, ?_, fun k hk => Finset.min'_le _ _ ?_⟩
  · have := Finset.min'_mem _ hne
    simp only [Finset.mem_filter, Finset.mem_univ, true_and] at this
    rw [this]; exact hq
  · have := Finset.min'_mem _ hne
    simp only [Finset.mem_filter, Finset.mem_univ, true_and] at this ⊢
    rw [hk, this]

/-- The selected position: the least at which `w` is largest. -/
def pick (w : Fin 64 → EReal) : Fin 64 := Classical.choose (exists_isPick w)

/-- The chosen position is the selected one. -/
theorem pick_spec (w : Fin 64 → EReal) : IsPick w (pick w) := Classical.choose_spec (exists_isPick w)

/-- The entries with the selected one struck out. -/
def strike (w : Fin 64 → EReal) : Fin 64 → EReal := fun k => if k = pick w then ⊥ else w k

/-- The entries after `r` selections. -/
def work (key : Fin 64 → EReal) : ℕ → Fin 64 → EReal
  | 0 => key
  | r + 1 => strike (work key r)

/-- The position the `r`-th selection takes. -/
def picks (key : Fin 64 → EReal) (r : ℕ) : Fin 64 := pick (work key r)

variable (key : Fin 64 → EReal)

/-- A position left after `r` selections still has its entry; a position taken has the bottom. -/
theorem work_eq (r : ℕ) (k : Fin 64) : work key r k = if ∃ j < r, picks key j = k then ⊥ else key k := by
  induction r with
  | zero => simp [work]
  | succ r ih =>
    show (if k = pick (work key r) then ⊥ else work key r k) = _
    by_cases h : k = pick (work key r)
    · rw [if_pos h, if_pos ⟨r, Nat.lt_succ_self r, h.symm⟩]
    · rw [if_neg h, ih]
      refine if_congr ⟨fun ⟨j, hj, e⟩ => ⟨j, hj.trans (Nat.lt_succ_self r), e⟩, fun ⟨j, hj, e⟩ => ?_⟩ rfl rfl
      rcases Nat.lt_succ_iff_lt_or_eq.mp hj with hj | rfl
      · exact ⟨j, hj, e⟩
      · exact absurd e.symm h

variable (hkey : ∀ k, ⊥ < key k)
include hkey

/-- Each of the first 64 selections takes a position not taken before. -/
theorem picks_ne {r : ℕ} (hr : r < 64) {j : ℕ} (hj : j < r) : picks key j ≠ picks key r := by
  classical
  intro e
  -- some position is left
  obtain ⟨k, hk⟩ : ∃ k : Fin 64, ¬ ∃ j < r, picks key j = k := by
    by_contra hall
    push Not at hall
    have hsub : (Finset.univ : Finset (Fin 64)) ⊆ (Finset.range r).image (picks key) := fun k _ => by
      obtain ⟨j, hj, e⟩ := hall k
      exact Finset.mem_image.mpr ⟨j, Finset.mem_range.mpr hj, e⟩
    have := (Finset.card_le_card hsub).trans Finset.card_image_le
    simp at this
    omega
  have h1 := (pick_spec (work key r)).1 k
  rw [work_eq key r k, if_neg hk] at h1
  have h2 : work key r (pick (work key r)) = ⊥ := by
    rw [work_eq, if_pos ⟨j, hj, e⟩]
  rw [h2] at h1
  exact absurd (hkey k) (not_lt.mpr h1)

/-- A selection's entry is not below that of any position not taken before it, and it is the first among equals. -/
theorem picks_dom {r : ℕ} (hr : r < 64) (p : Fin 64) (hp : ∀ j < r, picks key j ≠ p) :
    key p ≤ key (picks key r) ∧ (key p = key (picks key r) → picks key r ≤ p) := by
  have hp' : work key r p = key p := by
    rw [work_eq, if_neg]; rintro ⟨j, hj, e⟩; exact hp j hj e
  have hq' : work key r (picks key r) = key (picks key r) := by
    rw [work_eq, if_neg]; rintro ⟨j, hj, e⟩; exact picks_ne key hkey hr hj e
  have h := pick_spec (work key r)
  have h1 := h.1 p
  have h2 := h.2 p
  change work key r p ≤ work key r (picks key r) at h1
  change work key r p = work key r (picks key r) → picks key r ≤ p at h2
  rw [hp', hq'] at h1 h2
  exact ⟨h1, h2⟩

/-- THE FIRST EIGHT OF THE STABLE DESCENDING SORT ARE THE EIGHT SELECTIONS. -/
theorem sortedFrom_picks (R : Fin 64 → Fin 64 → Bool) (hR : ∀ k k', R k k' = decide (key k' < key k))
    (i : Fin 8) : sortedFrom R (i.castLE (by decide)) = picks key i.val := by
  classical
  rw [sortedFrom_key R (fun k k' => decide (key k = key k'))]
  have hRR : R = fun k k' => decide (key k' < key k) := by funext k k'; exact hR k k'
  subst hRR
  have hB := StrictTotalBefore.of_key_then_position (fun a b : EReal => decide (b < a)) key (by simp)
    (fun a b c h1 h2 => by simp only [decide_eq_true_eq] at h1 h2 ⊢; exact h2.trans h1)
    (fun a b => by
      simp only [decide_eq_true_eq]
      rcases lt_trichotomy a b with h | h | h
      · exact Or.inr (Or.inr h)
      · exact Or.inr (Or.inl h)
      · exact Or.inl h)
  have hdom : ∀ (i : Fin 8) (p : Fin 64), (∀ j < i.val, picks key j ≠ p) →
      (decide (key (picks key i.val) < key p) || (decide (key p = key (picks key i.val)) && decide (p < picks key i.val)))
        = false := fun i p hp => by
    have h := picks_dom key hkey (r := i.val) (by omega) p hp
    rw [Bool.or_eq_false_iff, Bool.and_eq_false_iff]
    refine ⟨decide_eq_false (not_lt.mpr h.1), ?_⟩
    by_cases e : key p = key (picks key i.val)
    · exact Or.inr (decide_eq_false (not_lt.mpr (h.2 e)))
    · exact Or.inl (decide_eq_false e)
  refine hB.sortedFrom_eq_of_prefix (by decide) (fun i : Fin 8 => picks key i.val) ?_ ?_ ?_ i
  · intro a b e
    rcases lt_trichotomy a b with h | h | h
    · exact absurd e (picks_ne key hkey (by omega) h)
    · exact h
    · exact absurd e.symm (picks_ne key hkey (by omega) h)
  · intro i j hij
    exact hdom i _ fun l hl => picks_ne key hkey (by omega) (hl.trans hij)
  · intro i p hp
    exact hdom i p fun l hl => hp ⟨l, by omega⟩

end Cert.Router
-- ==== Proof.Spec.lean ====
/-
  The router's mathematics, token by token: the uniform draw of a place, the noisy logits of a row, the eight selections and the
  softmax over them. Both programs are read as these.
-/
module

public import proofs.«01_k».proof.Proof.Bits
public import proofs.«01_k».proof.Proof.TopK
public import Idealize.ShloMosaic.Lib.IdealHost

@[expose] public section

noncomputable section

namespace Cert.Router

open Idealize.ShloMosaic

/-- The `n`-th draw: the word's upper 23 bits as the fraction of a float of [1, 2), less one. -/
def unif (n : BitVec 32) : EReal := Ideal.ofBits .f32 (word n >>> 9 ||| 1065353216#32) - 1

/-- The softplus, as `log(1 + e^z)` is computed: the larger of `z` and 0, plus `log(1 + e^(-|z|))`. -/
def softplus (z : EReal) : EReal := max z 0 + Ideal.log1p (Ideal.exp (-(max z (-z))))

/-- A row's product with an expert's weights. -/
def dot (x w : Fin 4096 → EReal) : EReal := ∑ k, x k * w k

/-- The noisy logits of token number `t`. -/
def noisyOf (x : Fin 4096 → EReal) (wr wn : Fin 64 → Fin 4096 → EReal) (b : Fin 64 → EReal) (t : ℕ) (e : Fin 64) : EReal :=
  unif (BitVec.ofNat 32 (t * 64 + e.val)) * softplus (dot x (wn e)) + dot x (wr e) + b e

/-- Whether an expert is among the eight selected. -/
def Chosen (key : Fin 64 → EReal) (e : Fin 64) : Prop := ∃ j < 8, picks key j = e

open Classical in
/-- An expert's weight: of a selected one, the exponential of its logit less the greatest; of any other, 0. -/
def weight (key : Fin 64 → EReal) (e : Fin 64) : EReal := if Chosen key e then Ideal.exp (key e - key (picks key 0)) else 0

/-- An expert's probability. -/
def probOf (key : Fin 64 → EReal) (e : Fin 64) : EReal := Ideal.div (weight key e) (∑ k, weight key k)

/-- A number of the real line: neither infinity. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A real is above −∞. -/
theorem IsReal.bot_lt {x : EReal} (hx : IsReal x) : ⊥ < x := by obtain ⟨a, rfl⟩ := hx; exact EReal.bot_lt_coe a

/-- A product of a real row with real weights is real. -/
theorem IsReal.dot {x w : Fin 4096 → EReal} (hx : ∀ k, IsReal (x k)) (hw : ∀ k, IsReal (w k)) : IsReal (dot x w) :=
  IsReal.sum _ _ fun k => (hx k).mul (hw k)

/-- The word of minus infinity. -/
theorem ofBits_neg_inf : Ideal.ofBits .f32 0xFF800000#32 = ⊥ := by
  show Ideal.ieee 8 23 (0xFF800000#32 : BitVec 32) = ⊥
  simp [Ideal.ieee]

/-- The exponent field of a word with the bits of 1.0 set over a word of 23 bits is that of 1.0. -/
theorem expo_word (w : BitVec 32) : (w >>> 9 ||| 1065353216#32).extractLsb' 23 8 = 127#8 := by
  apply BitVec.eq_of_getLsbD_eq
  intro i hi
  interval_cases i <;> simp [BitVec.getLsbD_extractLsb']

/-- The sign bit of a word with the bits of 1.0 set over a word of 23 bits is 0. -/
theorem sign_word (w : BitVec 32) : (w >>> 9 ||| 1065353216#32).extractLsb' 31 1 = 0#1 := by
  apply BitVec.eq_of_getLsbD_eq
  intro i hi
  interval_cases i
  simp [BitVec.getLsbD_extractLsb']

/-- A float of [1, 2) less one is a real at least 0. -/
theorem unif_real (n : BitVec 32) : ∃ r : ℝ, 0 ≤ r ∧ unif n = (r : EReal) := by
  unfold unif
  generalize word n = w
  have h : Ideal.ofBits .f32 (w >>> 9 ||| 1065353216#32) =
      (((2 ^ 23 + ((w >>> 9 ||| 1065353216#32).extractLsb' 0 23).toNat : ℕ) * (2 : ℝ) ^ (-23 : ℤ) : ℝ) : EReal) := by
    show Ideal.ieee 8 23 (w >>> 9 ||| 1065353216#32 : BitVec 32) = _
    unfold Ideal.ieee
    rw [expo_word, sign_word]
    generalize (w >>> 9 ||| 1065353216#32 : BitVec 32).extractLsb' 0 23 = f
    simp
  rw [h]
  refine ⟨(2 ^ 23 + ((w >>> 9 ||| 1065353216#32).extractLsb' 0 23).toNat : ℕ) * (2 : ℝ) ^ (-23 : ℤ) - 1, ?_, ?_⟩
  · generalize ((w >>> 9 ||| 1065353216#32).extractLsb' 0 23).toNat = k
    have hk : (0 : ℝ) ≤ k := Nat.cast_nonneg k
    have : (((2 ^ 23 + k : ℕ) : ℝ)) * (2 : ℝ) ^ (-23 : ℤ) - 1 = k * (2 : ℝ) ^ (-23 : ℤ) := by
      push_cast
      norm_num
      ring
    rw [this]
    positivity
  · exact (EReal.coe_sub _ _).symm

/-- An exponential is at least 0. -/
theorem exp_nonneg (y : EReal) : 0 ≤ Ideal.exp y := by
  induction y with
  | bot => exact le_refl _
  | top => exact le_top
  | coe r => rw [Ideal.exp_coe]; exact EReal.coe_nonneg.mpr (Real.exp_pos r).le

/-- The logarithm of one and a number at least 0 is at least 0. -/
theorem log1p_nonneg (y : EReal) (hy : 0 ≤ y) : 0 ≤ Ideal.log1p y := by
  unfold Ideal.log1p
  induction y with
  | bot => exact absurd hy (by simp)
  | top => rw [show (1 : EReal) + ⊤ = ⊤ from rfl, Ideal.log_top]; exact le_top
  | coe r =>
    have hr : 0 ≤ r := EReal.coe_nonneg.mp hy
    rw [show (1 : EReal) + (r : EReal) = ((1 + r : ℝ) : EReal) from rfl, Ideal.log_coe, if_neg (by linarith)]
    exact EReal.coe_nonneg.mpr (Real.log_nonneg (by linarith))

/-- The softplus of any extended real is at least 0. -/
theorem softplus_nonneg (z : EReal) : 0 ≤ softplus z :=
  add_nonneg (le_max_right _ _) (log1p_nonneg _ (exp_nonneg _))

/-- Of a real row, real router weights and biases above −∞, the noisy logits are above −∞. -/
theorem noisyOf_above {x : Fin 4096 → EReal} {wr wn : Fin 64 → Fin 4096 → EReal} {b : Fin 64 → EReal} (hx : ∀ k, IsReal (x k))
    (hr : ∀ e k, IsReal (wr e k)) (hb : ∀ e, ⊥ < b e) (t : ℕ) (e : Fin 64) : ⊥ < noisyOf x wr wn b t e := by
  obtain ⟨u, hu, hu'⟩ := unif_real (BitVec.ofNat 32 (t * 64 + e.val))
  have h : 0 ≤ unif (BitVec.ofNat 32 (t * 64 + e.val)) * softplus (dot x (wn e)) :=
    mul_nonneg (hu' ▸ EReal.coe_nonneg.mpr hu) (softplus_nonneg _)
  exact EReal.bot_lt_add_iff.mpr ⟨EReal.bot_lt_add_iff.mpr ⟨lt_of_lt_of_le EReal.bot_lt_zero h, (IsReal.dot hx (hr e)).bot_lt⟩, hb e⟩

end Cert.Router
-- ==== Proof.KSelect.lean ====
/-
  The kernel's selection rounds and its softmax, column by column: a round of a block takes, in every column, the least position of
  the column's greatest entry and strikes it out.
-/
module

public import proofs.«01_k».proof.Proof.Spec
public import proofs.«01_k».proof.Proof.Gen.KernelIdeal.Frame
public import Idealize.ShloMosaic.Lib.Pointwise.Reshape
public import Idealize.ShloMosaic.Lib.Pipeline.Value
public import Idealize.ShloMosaic.Lib.KernelVsHost
public import Idealize.ShloMosaic.Lib.WordArith
public import Idealize.ShloMosaic.Lib.StableHlo.Predicate
public import Idealize.ShloMosaic.PureOps.Ideal.Laws

@[expose] public section

set_option Elab.async false

noncomputable section

namespace Cert.RouterKernel

open Cert.KernelIdeal Cert.KernelIdeal.Gen Idealize.ShloMosaic Cert.Router

/-- A block of the kernel: an expert's number of every token. -/
local notation "Blk" => FVec Ideal S64x1024 FTy.f32

/-- A row under the block, one number of every column. -/
def asRow (y : FVec Ideal S1024 .f32) : FVec Ideal S1x1024 .f32 := shapeCast S1x1024 y shapeCasts_S1024_S1x1024
/-- A row repeated down the block. -/
def down (y : FVec Ideal S1x1024 .f32) : Blk := broadcastTo S64x1024 y broadcasts_S1x1024_S64x1024
/-- The greatest of every column. -/
def maxRow (w : Blk) : FVec Ideal S1x1024 .f32 := asRow (multiReduction .maximumf [0] S1024 w 0xFF800000#32 reduces_S64x1024_S1024 (.inl rfl) rfl)
/-- The places of the columns' greatest. -/
def atMax (w : Blk) : IVec S64x1024 1 := cmpf .oeq w (down (maxRow w))
/-- The number of every place of the columns' greatest, 64 elsewhere. -/
def cand (w : Blk) : Blk := select (atMax w) (k0_pay40 (F := Ideal)) (broadcast S64x1024 (Scalar.ofBits .f32 0x42800000#32))
/-- The least place of every column's greatest. -/
def idxRow (w : Blk) : FVec Ideal S1x1024 .f32 := asRow (multiReduction .minimumf [0] S1024 (cand w) 0x7F800000#32 reduces_S64x1024_S1024 (.inl rfl) rfl)
/-- The selected place of every column. -/
def mask (w : Blk) : IVec S64x1024 1 := cmpf .oeq (cand w) (down (idxRow w))
/-- The block with the selected places struck out. -/
def strikeB (w : Blk) : Blk := select (mask w) (broadcast S64x1024 (Scalar.ofBits .f32 0xFF800000#32)) w
/-- The block after `r` rounds. -/
def workB (w : Blk) : ℕ → Blk
  | 0 => w
  | r + 1 => strikeB (workB w r)
/-- The places selected in the first `r` rounds. -/
def selB (w : Blk) : ℕ → IVec S64x1024 1
  | 0 => broadcast S64x1024 0#1
  | r + 1 => ori (selB w r) (mask (workB w r))

/-- A vector laid out as one row, at a column. -/
theorem asRow_at (y : FVec Ideal S1024 .f32) (z : Fin 1) (t : Fin 1024) : asRow y (ix2 z t) = y (ix1 t) := by
  unfold asRow shapeCast
  refine congrArg y (Shape.reshapeEquiv_eq_of_vals _ _ _ _ _ (rowMajor_val1 _) (rowMajor_val2 _ 1024 rfl) ?_)
  show t.val = z.val * 1024 + t.val
  omega

/-- A row repeated down the experts, at a place. -/
theorem down_at (y : FVec Ideal S1x1024 .f32) (e : Fin 64) (t : Fin 1024) : down y (ix2 e t) = y (ix2 0 t) := by
  refine congrArg y ?_
  funext a; apply Fin.ext
  match a with
  | ⟨0, _⟩ => rfl
  | ⟨1, _⟩ => rfl

/-- The place a column's reduction reads for an expert. -/
theorem lift_col (t : Fin 1024) (k : Fin 64) : reduces_S64x1024_S1024.lift (ix1 t) k = ix2 k t := by
  funext a; apply Fin.ext
  match a with
  | ⟨0, _⟩ => rfl
  | ⟨1, _⟩ => rfl

/-- The word of plus infinity. -/
theorem ofBits_pos_inf : Ideal.ofBits .f32 0x7F800000#32 = ⊤ := by
  show Ideal.ieee 8 23 (0x7F800000#32 : BitVec 32) = ⊤
  simp [Ideal.ieee]

/-- The word of 64. -/
theorem ofBits_64 : Ideal.ofBits .f32 0x42800000#32 = ((64 : ℝ) : EReal) := by
  show Ideal.ieee 8 23 (0x42800000#32 : BitVec 32) = _
  simp [Ideal.ieee, -EReal.coe_mul]
  norm_num

/-- The largest of a list of numbers, folded from −∞, is the one no other is above. -/
theorem fold_max_eq {n : ℕ} (f : Fin n → EReal) (p : Fin n) (h : ∀ k, f k ≤ f p) :
    (Finset.univ : Finset (Fin n)).fold max ⊥ f = f p :=
  le_antisymm ((Finset.fold_max_le _).mpr ⟨bot_le, fun k _ => h k⟩) ((Finset.le_fold_max _).mpr (Or.inr ⟨p, Finset.mem_univ _, le_rfl⟩))

/-- The least of a list of numbers, folded from ∞, is the one no other is below. -/
theorem fold_min_eq {n : ℕ} (f : Fin n → EReal) (p : Fin n) (h : ∀ k, f p ≤ f k) :
    (Finset.univ : Finset (Fin n)).fold min ⊤ f = f p :=
  le_antisymm ((Finset.fold_min_le _).mpr (Or.inr ⟨p, Finset.mem_univ _, le_rfl⟩)) ((Finset.le_fold_min _).mpr ⟨le_top, fun k _ => h k⟩)

/-- The least of a column. -/
theorem colMin (y : Blk) (t : Fin 1024) : multiReduction .minimumf [0] S1024 y 0x7F800000#32 reduces_S64x1024_S1024 (.inl rfl) rfl (ix1 t) =
    (Finset.univ : Finset (Fin (S64x1024.size 0))).fold min (FloatOps.ofBits (F := Ideal) .f32 0x7F800000#32) (y ∘ reduces_S64x1024_S1024.lift (ix1 t)) :=
  (multiReduction_minimumf_eq_fold y _ reduces_S64x1024_S1024 (.inl rfl) rfl (ix1 t)).trans (reduces_S64x1024_S1024.fold_filter_drop_single _ _ y (ix1 t))

variable (w : Blk) (v : Fin 64 → EReal) (t : Fin 1024) (hw : ∀ e, w (ix2 e t) = v e)
include hw

/-- The row of maxima holds the greatest entry of the column. -/
theorem maxRow_at (z : Fin 1) : maxRow w (ix2 z t) = v (pick v) := by
  unfold maxRow
  refine (asRow_at _ z t).trans ((Ideal.multiReduction_maximumf_single w _ reduces_S64x1024_S1024 (.inl rfl) rfl (ix1 t)).trans ?_)
  have e : (fun k : Fin 64 => w (reduces_S64x1024_S1024.lift (ix1 t) k)) = v := funext fun k => (congrArg w (lift_col t k)).trans (hw k)
  exact (congrArg₂ (fun (b : EReal) (f : Fin 64 → EReal) => (Finset.univ : Finset (Fin 64)).fold max b f) ofBits_neg_inf e).trans
    (fold_max_eq v (pick v) (pick_spec v).1)

/-- The comparison with the maximum marks the entries equal to the greatest. -/
theorem atMax_at (e : Fin 64) : atMax w (ix2 e t) = BitVec.ofBool (decide (v e = v (pick v))) := by
  have h : atMax w (ix2 e t) = BitVec.ofBool (decide (w (ix2 e t) = down (maxRow w) (ix2 e t))) := rfl
  rw [h, down_at, maxRow_at w v t hw, hw]

omit hw in
/-- A selection by a decided proposition is a case distinction. -/
theorem select_decide {α : Type} (P : Prop) [Decidable P] (a b : α) : Scalar.select (BitVec.ofBool (decide P)) a b = if P then a else b := by
  by_cases h : P <;> simp [Scalar.select, h]

omit hw in
/-- The experts' numbers as floats. -/
theorem expert_at (e : Fin 64) : (k0_pay40 (F := Ideal)) (ix2 e t) = ((e.val : ℝ) : EReal) := by
  have h : (k0_pay40 (F := Ideal)) (ix2 e t) = (((BitVec.ofNat 32 (0 * 64 + e.val)).toInt : ℝ) : EReal) := rfl
  have he := e.isLt
  rw [h, Idealize.ShloMosaic.StableHlo.Predicate.toInt_ofNat_small _ (by omega)]
  simp

/-- The candidates: the number of an entry equal to the greatest, 64 for any other. -/
theorem cand_at (e : Fin 64) : cand w (ix2 e t) = if v e = v (pick v) then ((e.val : ℝ) : EReal) else ((64 : ℝ) : EReal) := by
  have h : cand w (ix2 e t) = Scalar.select (atMax w (ix2 e t)) ((k0_pay40 (F := Ideal)) (ix2 e t)) (Ideal.ofBits .f32 0x42800000#32) := rfl
  rw [h, atMax_at w v t hw, expert_at, ofBits_64, select_decide]

/-- The least place of a column's greatest is the selected position. -/
theorem idxRow_at (z : Fin 1) : idxRow w (ix2 z t) = (((pick v).val : ℝ) : EReal) := by
  unfold idxRow
  refine (asRow_at _ z t).trans ((colMin (cand w) t).trans ?_)
  have e : (fun k : Fin 64 => cand w (reduces_S64x1024_S1024.lift (ix1 t) k)) =
      fun k => if v k = v (pick v) then ((k.val : ℝ) : EReal) else ((64 : ℝ) : EReal) :=
    funext fun k => (congrArg (cand w) (lift_col t k)).trans (cand_at w v t hw k)
  refine (congrArg₂ (fun (b : EReal) (f : Fin 64 → EReal) => (Finset.univ : Finset (Fin 64)).fold min b f) ofBits_pos_inf e).trans
    ((fold_min_eq _ (pick v) fun k => ?_).trans (if_pos rfl))
  rw [if_pos rfl]
  by_cases h : v k = v (pick v)
  · rw [if_pos h]
    have := (pick_spec v).2 k h
    exact EReal.coe_le_coe_iff.mpr (by exact_mod_cast this)
  · rw [if_neg h]
    have := (pick v).isLt
    exact EReal.coe_le_coe_iff.mpr (by exact_mod_cast this.le)

/-- The selected place of a column. -/
theorem mask_at (e : Fin 64) : mask w (ix2 e t) = BitVec.ofBool (decide (e = pick v)) := by
  have h : mask w (ix2 e t) = BitVec.ofBool (decide (cand w (ix2 e t) = down (idxRow w) (ix2 e t))) := rfl
  rw [h, down_at, idxRow_at w v t hw, cand_at w v t hw]
  congr 1
  refine decide_eq_decide.mpr ⟨fun h => ?_, fun h => ?_⟩
  · by_cases hv : v e = v (pick v)
    · rw [if_pos hv] at h
      exact Fin.ext (by exact_mod_cast EReal.coe_eq_coe_iff.mp h)
    · rw [if_neg hv] at h
      have h : (64 : ℝ) = ((pick v).val : ℝ) := EReal.coe_eq_coe_iff.mp h
      have h : 64 = (pick v).val := by exact_mod_cast h
      have := (pick v).isLt
      omega
  · rw [h, if_pos rfl]

/-- The struck array holds the struck column. -/
theorem strikeB_at (e : Fin 64) : strikeB w (ix2 e t) = strike v e := by
  have h : strikeB w (ix2 e t) = Scalar.select (mask w (ix2 e t)) (Ideal.ofBits .f32 0xFF800000#32) (w (ix2 e t)) := rfl
  rw [h, mask_at w v t hw, select_decide, ofBits_neg_inf, hw]
  rfl

/-- The array after some rounds holds the column after as many. -/
theorem workB_at (r : ℕ) : ∀ e, workB w r (ix2 e t) = work v r e := by
  induction r with
  | zero => exact hw
  | succ r ih => exact fun e => strikeB_at (workB w r) (work v r) t ih e

open Classical in
/-- The places selected in the first `r` rounds. -/
theorem selB_at (r : ℕ) (e : Fin 64) : selB w r (ix2 e t) = BitVec.ofBool (decide (∃ j < r, picks v j = e)) := by
  induction r with
  | zero => simp [selB, broadcast]
  | succ r ih =>
    refine (show selB w (r + 1) (ix2 e t) = selB w r (ix2 e t) ||| mask (workB w r) (ix2 e t) from rfl).trans ?_
    rw [ih, mask_at (workB w r) (work v r) t (workB_at w v t hw r)]
    have : (∃ j < r + 1, picks v j = e) ↔ (∃ j < r, picks v j = e) ∨ e = pick (work v r) := by
      constructor
      · rintro ⟨j, hj, h⟩
        rcases Nat.lt_succ_iff_lt_or_eq.mp hj with hj | rfl
        · exact Or.inl ⟨j, hj, h⟩
        · exact Or.inr h.symm
      · rintro (⟨j, hj, h⟩ | h)
        · exact ⟨j, by omega, h⟩
        · exact ⟨r, by omega, h.symm⟩
    rw [decide_eq_decide.mpr this, Bool.decide_or]
    cases decide (∃ j < r, picks v j = e) <;> cases decide (e = pick (work v r)) <;> rfl

/-- The block's exponentials less the columns' greatest. -/
def expB (w : Blk) : Blk := k0_pay77 w (maxRow w)

/-- The exponentials hold those of the logits less the greatest. -/
theorem expB_at (e : Fin 64) : expB w (ix2 e t) = Ideal.exp (v e - v (picks v 0)) := by
  have h : expB w (ix2 e t) = Ideal.exp (w (ix2 e t) - down (maxRow w) (ix2 e t)) := rfl
  rw [h, down_at, maxRow_at w v t hw, hw]
  rfl

/-- The positions selected, a row of every round. -/
def idxB (w : Blk) : IVec S8x1024 32 :=
  fptosi 32 (concatenate S8x1024 0 [⟨S1x1024, idxRow (workB w 0)⟩, ⟨S1x1024, idxRow (workB w 1)⟩, ⟨S1x1024, idxRow (workB w 2)⟩,
    ⟨S1x1024, idxRow (workB w 3)⟩, ⟨S1x1024, idxRow (workB w 4)⟩, ⟨S1x1024, idxRow (workB w 5)⟩, ⟨S1x1024, idxRow (workB w 6)⟩,
    ⟨S1x1024, idxRow (workB w 7)⟩] concatenates_S1x1024_S1x1024_S1x1024_S1x1024_S1x1024_S1x1024_S1x1024_S1x1024_S8x1024_d0 : FVec Ideal S8x1024 .f32)

/-- The block's weights. -/
def weightB (w : Blk) : Blk := select (selB w 8) (expB w) (broadcast S64x1024 (Scalar.ofBits .f32 0x00000000#32))

/-- The masked exponentials are the weights. -/
theorem weightB_at (e : Fin 64) : weightB w (ix2 e t) = weight v e := by
  classical
  have h : weightB w (ix2 e t) = Scalar.select (selB w 8 (ix2 e t)) (expB w (ix2 e t)) (Ideal.ofBits .f32 0x00000000#32) := rfl
  rw [h, selB_at w v t hw, expB_at w v t hw, select_decide, Ideal.ofBits_zero_f32]
  unfold weight Chosen
  congr

/-- The row of sums holds the sum of the weights. -/
theorem sumRow_at (z : Fin 1) :
    asRow (multiReduction .add [0] S1024 (weightB w) 0x00000000#32 reduces_S64x1024_S1024 (.inl rfl) rfl) (ix2 z t) = ∑ k, weight v k := by
  refine (asRow_at _ z t).trans ((Ideal.multiReduction_add_single (weightB w) _ reduces_S64x1024_S1024 (.inl rfl) rfl (ix1 t)).trans ?_)
  exact Finset.sum_congr rfl fun k _ => (congrArg (weightB w) (lift_col t k)).trans (weightB_at w v t hw k)

/-- The block's probabilities. -/
theorem prob_at (e : Fin 64) : k0_pay1 (selB w 8) (expB w) (Scalar.ofBits .f32 0x00000000#32) (ix2 e t) = probOf v e := by
  have h : k0_pay1 (selB w 8) (expB w) (Scalar.ofBits .f32 0x00000000#32) (ix2 e t) = Ideal.div (weightB w (ix2 e t))
    (down (asRow (multiReduction .add [0] S1024 (weightB w) 0x00000000#32 reduces_S64x1024_S1024 (.inl rfl) rfl)) (ix2 e t)) := rfl
  rw [h, down_at, sumRow_at w v t hw, weightB_at w v t hw]
  rfl

omit hw in
/-- A number below 64 converts to its word. -/
theorem fptosi_nat (n : ℕ) (h : n < 64) : Ideal.fptosi 32 ((n : ℝ) : EReal) = BitVec.ofNat 32 n := by
  rw [Ideal.fptosi, Ideal.toIntClamped_coe, if_pos (Nat.cast_nonneg n), Int.floor_natCast, min_eq_right (by norm_num; omega),
    max_eq_right (by norm_num)]
  exact BitVec.ofInt_natCast 32 n

/-- A round's row of positions. -/
theorem idxB_at (r : Fin 8) : idxB w (ix2 r t) = BitVec.ofNat 32 (picks v r.val).val := by
  have h : idxB w (ix2 r t) = Ideal.fptosi 32 ((concatenate S8x1024 0
    (List.ofFn fun r : Fin 8 => (⟨S1x1024, idxRow (workB w r.val)⟩ : (s : Shape) × FVec Ideal s .f32))
    concatenates_S1x1024_S1x1024_S1x1024_S1x1024_S1x1024_S1x1024_S1x1024_S1x1024_S8x1024_d0 : FVec Ideal S8x1024 .f32) (ix2 r t)) := rfl
  refine h.trans ((congrArg (Ideal.fptosi 32) ((concatenate_ofFn_unit_apply (t := S8x1024) (s₁ := S1x1024) 0
    (fun r : Fin 8 => idxRow (workB w r.val)) _ rfl rfl (ix2 r t) r rfl (ix2 0 t) (fun b hb => ?_)).trans
    (idxRow_at (workB w r.val) (work v r.val) t (workB_at w v t hw r.val) 0))).trans (fptosi_nat _ (pick _).isLt))
  match b, hb with
  | ⟨0, _⟩, hb => exact absurd rfl hb
  | ⟨1, _⟩, _ => rfl

end Cert.RouterKernel

end
-- ==== Proof.KRounds.lean ====
/-
  The values of the kernel's body are the selection rounds: the body's three parts hold rounds 1 and 2, rounds 2 to 5, and rounds 6
  to 8, each part over the values the one before it hands on.
-/
module

public import proofs.«01_k».proof.Proof.KSelect

@[expose] public section

set_option Elab.async false

noncomputable section

namespace Cert.RouterKernel

open Cert.KernelIdeal Cert.KernelIdeal.Gen Idealize.ShloMosaic Cert.Router

local notation "Blk" => FVec Ideal S64x1024 FTy.f32

section first
variable (a b : Blk) (c : IVec S64x1024 32) (d : BitVec 32) (y : Vec Ideal S64x1 .f32)
/-- The kernel's named value is the row of maxima of the noisy logits. -/
theorem pay41_eq : k0_pay41 a b c d y = maxRow (k0_pay39 a b c d y) := rfl
/-- The kernel's named value is the candidates of the noisy logits. -/
theorem pay42_eq : k0_pay42 a b c d y = cand (k0_pay39 a b c d y) := rfl
/-- The kernel's named value is the row of selected positions of the noisy logits. -/
theorem pay43_eq : k0_pay43 a b c d y = idxRow (k0_pay39 a b c d y) := by unfold k0_pay43; rw [pay42_eq]; rfl
/-- The kernel's named value is the mask of the selected positions of the noisy logits. -/
theorem pay44_eq : k0_pay44 a b c d y = mask (k0_pay39 a b c d y) := by unfold k0_pay44; rw [pay42_eq, pay43_eq]; rfl
/-- The kernel's named value is the noisy logits after a strike-out. -/
theorem pay45_eq : k0_pay45 a b c d y = strikeB (k0_pay39 a b c d y) := by unfold k0_pay45; rw [pay44_eq]; rfl
/-- The kernel's named value marks the first selected position. -/
theorem pay46_eq : k0_pay46 a b c d y = selB (k0_pay39 a b c d y) 1 := by unfold k0_pay46; rw [pay44_eq]; rfl
/-- The kernel's named value is the comparison with the maximum of the noisy logits after one strike-out. -/
theorem pay47_eq : k0_pay47 a b c d y = atMax (strikeB (k0_pay39 a b c d y)) := by unfold k0_pay47; rw [pay45_eq]; rfl
end first

section middle
variable (w : Blk)
/-- The kernel's named value is the candidates of the array at hand. -/
theorem pay48_eq : k0_pay48 (k0_pay40 (F := Ideal)) (atMax w) (Scalar.ofBits .f32 0x42800000#32) = cand w := rfl
/-- The kernel's named value is the row of selected positions of the array at hand. -/
theorem pay49_eq : k0_pay49 (k0_pay40 (F := Ideal)) (atMax w) (Scalar.ofBits .f32 0x42800000#32) = idxRow w := by unfold k0_pay49; rw [pay48_eq]; rfl
/-- The kernel's named value is the mask of the selected positions of the array at hand. -/
theorem pay50_eq : k0_pay50 (k0_pay40 (F := Ideal)) (atMax w) (Scalar.ofBits .f32 0x42800000#32) = mask w := by unfold k0_pay50; rw [pay49_eq, pay48_eq]; rfl
/-- The kernel's named value is the array at hand after a strike-out. -/
theorem pay51_eq : k0_pay51 (k0_pay40 (F := Ideal)) w (atMax w) (Scalar.ofBits .f32 0x42800000#32) = strikeB w := by unfold k0_pay51; rw [pay50_eq]; rfl
/-- The kernel's named value is the candidates of the array after one strike-out. -/
theorem pay52_eq : k0_pay52 (k0_pay40 (F := Ideal)) w (atMax w) (Scalar.ofBits .f32 0x42800000#32) = cand (strikeB w) := by unfold k0_pay52; rw [pay51_eq]; rfl
/-- The kernel's named value is the row of selected positions of the array after one strike-out. -/
theorem pay53_eq : k0_pay53 (k0_pay40 (F := Ideal)) w (atMax w) (Scalar.ofBits .f32 0x42800000#32) = idxRow (strikeB w) := by unfold k0_pay53; rw [pay52_eq]; rfl
/-- The kernel's named value is the mask of the selected positions of the array after one strike-out. -/
theorem pay54_eq : k0_pay54 (k0_pay40 (F := Ideal)) w (atMax w) (Scalar.ofBits .f32 0x42800000#32) = mask (strikeB w) := by unfold k0_pay54; rw [pay53_eq, pay52_eq]; rfl
/-- The kernel's named value is the array at hand after two rounds. -/
theorem pay55_eq : k0_pay55 (k0_pay40 (F := Ideal)) w (atMax w) (Scalar.ofBits .f32 0x42800000#32) = workB w 2 := by unfold k0_pay55; rw [pay54_eq, pay51_eq]; rfl
/-- The kernel's named value is the candidates of the array after two rounds. -/
theorem pay56_eq : k0_pay56 (k0_pay40 (F := Ideal)) w (atMax w) (Scalar.ofBits .f32 0x42800000#32) = cand (workB w 2) := by unfold k0_pay56; rw [pay55_eq]; rfl
/-- The kernel's named value is the row of selected positions of the array after two rounds. -/
theorem pay57_eq : k0_pay57 (k0_pay40 (F := Ideal)) w (atMax w) (Scalar.ofBits .f32 0x42800000#32) = idxRow (workB w 2) := by unfold k0_pay57; rw [pay56_eq]; rfl
/-- The kernel's named value is the mask of the selected positions of the array after two rounds. -/
theorem pay58_eq : k0_pay58 (k0_pay40 (F := Ideal)) w (atMax w) (Scalar.ofBits .f32 0x42800000#32) = mask (workB w 2) := by unfold k0_pay58; rw [pay57_eq, pay56_eq]; rfl
/-- The kernel's named value is the array at hand after three rounds. -/
theorem pay59_eq : k0_pay59 (k0_pay40 (F := Ideal)) w (atMax w) (Scalar.ofBits .f32 0x42800000#32) = workB w 3 := by unfold k0_pay59; rw [pay58_eq, pay55_eq]; rfl
/-- The mask after three more rounds. -/
theorem pay60_eq (s : IVec S64x1024 1) : k0_pay60 (k0_pay40 (F := Ideal)) w s (atMax w) (Scalar.ofBits .f32 0x42800000#32) = ori (ori (ori s (mask w)) (mask (strikeB w))) (mask (workB w 2)) := by
  unfold k0_pay60; rw [pay50_eq, pay54_eq, pay58_eq]
/-- The kernel's named value is the candidates of the array after three rounds. -/
theorem pay61_eq : k0_pay61 (k0_pay40 (F := Ideal)) w (atMax w) (Scalar.ofBits .f32 0x42800000#32) = cand (workB w 3) := by unfold k0_pay61; rw [pay59_eq]; rfl
/-- The kernel's named value is the row of selected positions of the array after three rounds. -/
theorem pay62_eq : k0_pay62 (k0_pay40 (F := Ideal)) w (atMax w) (Scalar.ofBits .f32 0x42800000#32) = idxRow (workB w 3) := by unfold k0_pay62; rw [pay61_eq]; rfl
/-- The kernel's named value is the mask of the selected positions of the array after three rounds. -/
theorem pay63_eq : k0_pay63 (k0_pay40 (F := Ideal)) w (atMax w) (Scalar.ofBits .f32 0x42800000#32) = mask (workB w 3) := by unfold k0_pay63; rw [pay62_eq, pay61_eq]; rfl
end middle

section last
variable (w : Blk)
/-- The kernel's named value is the array at hand after a strike-out. -/
theorem pay65_eq : k0_pay65 w (mask w) (k0_pay64 (F := Ideal)) = strikeB w := rfl
/-- The kernel's named value is the candidates of the array after one strike-out. -/
theorem pay66_eq : k0_pay66 (k0_pay40 (F := Ideal)) w (mask w) (k0_pay64 (F := Ideal)) = cand (strikeB w) := by unfold k0_pay66; rw [pay65_eq]; rfl
/-- The kernel's named value is the row of selected positions of the array after one strike-out. -/
theorem pay67_eq : k0_pay67 (k0_pay40 (F := Ideal)) w (mask w) (k0_pay64 (F := Ideal)) = idxRow (strikeB w) := by unfold k0_pay67; rw [pay66_eq]; rfl
/-- The kernel's named value is the mask of the selected positions of the array after one strike-out. -/
theorem pay68_eq : k0_pay68 (k0_pay40 (F := Ideal)) w (mask w) (k0_pay64 (F := Ideal)) = mask (strikeB w) := by unfold k0_pay68; rw [pay67_eq, pay66_eq]; rfl
/-- The kernel's named value is the array at hand after two rounds. -/
theorem pay69_eq : k0_pay69 (k0_pay40 (F := Ideal)) w (mask w) (k0_pay64 (F := Ideal)) = workB w 2 := by unfold k0_pay69; rw [pay68_eq, pay65_eq]; rfl
/-- The kernel's named value is the candidates of the array after two rounds. -/
theorem pay70_eq : k0_pay70 (k0_pay40 (F := Ideal)) w (mask w) (k0_pay64 (F := Ideal)) = cand (workB w 2) := by unfold k0_pay70; rw [pay69_eq]; rfl
/-- The kernel's named value is the row of selected positions of the array after two rounds. -/
theorem pay71_eq : k0_pay71 (k0_pay40 (F := Ideal)) w (mask w) (k0_pay64 (F := Ideal)) = idxRow (workB w 2) := by unfold k0_pay71; rw [pay70_eq]; rfl
/-- The kernel's named value is the mask of the selected positions of the array after two rounds. -/
theorem pay72_eq : k0_pay72 (k0_pay40 (F := Ideal)) w (mask w) (k0_pay64 (F := Ideal)) = mask (workB w 2) := by unfold k0_pay72; rw [pay71_eq, pay70_eq]; rfl
/-- The kernel's named value is the candidates of the array after three rounds. -/
theorem pay73_eq : k0_pay73 (k0_pay40 (F := Ideal)) w (mask w) (k0_pay64 (F := Ideal)) = cand (workB w 3) := by unfold k0_pay73; rw [pay72_eq, pay69_eq]; rfl
/-- The kernel's named value is the row of selected positions of the array after three rounds. -/
theorem pay74_eq : k0_pay74 (k0_pay40 (F := Ideal)) w (mask w) (k0_pay64 (F := Ideal)) = idxRow (workB w 3) := by unfold k0_pay74; rw [pay73_eq]; rfl
/-- The mask after four more rounds. -/
theorem pay75_eq (s : IVec S64x1024 1) : k0_pay75 (k0_pay40 (F := Ideal)) w s (mask w) (k0_pay64 (F := Ideal)) =
    ori (ori (ori (ori s (mask w)) (mask (strikeB w))) (mask (workB w 2))) (mask (workB w 3)) := by
  unfold k0_pay75; rw [pay68_eq, pay72_eq, pay74_eq, pay73_eq]; rfl
/-- The selected positions, stacked and converted to words. -/
theorem pay76_eq (r1 r2 r3 r4 r5 : FVec Ideal S1x1024 .f32) : k0_pay76 (k0_pay40 (F := Ideal)) r1 r2 r3 r4 w r5 (mask w) (k0_pay64 (F := Ideal)) =
    fptosi 32 (concatenate S8x1024 0 [⟨S1x1024, r1⟩, ⟨S1x1024, r2⟩, ⟨S1x1024, r3⟩, ⟨S1x1024, r4⟩, ⟨S1x1024, r5⟩, ⟨S1x1024, idxRow (strikeB w)⟩,
      ⟨S1x1024, idxRow (workB w 2)⟩, ⟨S1x1024, idxRow (workB w 3)⟩]
      concatenates_S1x1024_S1x1024_S1x1024_S1x1024_S1x1024_S1x1024_S1x1024_S1x1024_S8x1024_d0 : FVec Ideal S8x1024 .f32) := by
  unfold k0_pay76; rw [pay67_eq, pay71_eq, pay74_eq]
end last

/-- One strike-out is one round. -/
theorem strikeB_eq (w : Blk) : strikeB w = workB w 1 := rfl
/-- No round leaves the array. -/
theorem workB_zero (w : Blk) : workB w 0 = w := rfl
/-- Rounds after rounds are as many rounds together. -/
theorem workB_workB (w : Blk) (a b : ℕ) : workB (workB w a) b = workB w (a + b) := by
  induction b with
  | zero => rfl
  | succ b ih => exact congrArg strikeB ih
/-- The mask after one more round. -/
theorem selB_succ (w : Blk) (r : ℕ) : selB w (r + 1) = ori (selB w r) (mask (workB w r)) := rfl

section whole
variable (i : grid0.Coords) (x0 : Vec Ideal S1024x4096 .f32) (x1 : Vec Ideal S128x4096 .f32) (x2 : Vec Ideal S64x1 .f32)

/-- The noisy logits of a block, an expert's in every row. -/
def noisyB : Blk := k0_pay39 (k0_pay3 x0 x1) (k0_pay4 x0 x1) (k0_pay85 i x0 x1 x2) 9#32 x2

/-- The whole block of tokens is read. -/
theorem rect0 : View.ld x0 r0_0 = x0 := View.ld_unit_zero (funext fun a => by fin_cases a <;> rfl) _ _
/-- The whole block of weights is read. -/
theorem rect1 : View.ld x1 r0_1 = x1 := View.ld_unit_zero (funext fun a => by fin_cases a <;> rfl) _ _
/-- The whole block of biases is read. -/
theorem rect2 : View.ld x2 r0_2 = x2 := View.ld_unit_zero (funext fun a => by fin_cases a <;> rfl) _ _

/-- The block of probabilities a step writes. -/
theorem out3_eq : out0_3 i x0 x1 x2 = k0_pay1 (selB (noisyB i x0 x1 x2) 8) (expB (noisyB i x0 x1 x2)) (Scalar.ofBits .f32 0x00000000#32) := by
  have h39 : k0_pay39 (k0_pay78 i x0 x1 x2) (k0_pay79 i x0 x1 x2) (k0_pay85 i x0 x1 x2) 9#32 (View.ld x2 r0_2) = noisyB i x0 x1 x2 := by
    unfold k0_pay78 k0_pay79 noisyB; rw [rect0, rect1, rect2]
  unfold out0_3 k0_pay91 k0_pay90 k0_pay89 k0_pay88 k0_pay87 k0_pay86
  rw [View.canon_unit_zero (funext fun a => by fin_cases a <;> rfl)]
  simp only [pay45_eq, pay47_eq, pay46_eq, pay41_eq, h39, pay59_eq, pay60_eq, pay63_eq, pay75_eq]
  generalize noisyB i x0 x1 x2 = n
  rw [selB_succ n 7, selB_succ n 6, selB_succ n 5, selB_succ n 4, selB_succ n 3, selB_succ n 2, selB_succ n 1]
  simp only [strikeB_eq, workB_workB, Nat.reduceAdd, expB]

/-- The block of positions a step writes. -/
theorem out4_eq : out0_4 i x0 x1 x2 = idxB (noisyB i x0 x1 x2) := by
  have h39 : k0_pay39 (k0_pay78 i x0 x1 x2) (k0_pay79 i x0 x1 x2) (k0_pay85 i x0 x1 x2) 9#32 (View.ld x2 r0_2) = noisyB i x0 x1 x2 := by
    unfold k0_pay78 k0_pay79 noisyB; rw [rect0, rect1, rect2]
  unfold out0_4 k0_pay91 k0_pay90 k0_pay89 k0_pay88 k0_pay87 k0_pay86
  rw [View.canon_unit_zero (funext fun a => by fin_cases a <;> rfl)]
  simp only [pay45_eq, pay47_eq, pay43_eq, h39, pay49_eq, pay53_eq, pay57_eq, pay59_eq, pay62_eq, pay63_eq, pay76_eq]
  generalize noisyB i x0 x1 x2 = n
  unfold idxB
  simp only [strikeB_eq, workB_zero]
  rw [workB_workB n 1 1, workB_workB n 1 2, workB_workB n 1 3, workB_workB n (1 + 3) 1, workB_workB n (1 + 3) 2, workB_workB n (1 + 3) 3]
end whole

end Cert.RouterKernel

end
-- ==== Proof.KNoisy.lean ====
/-
  The kernel's block of noisy logits at a place is the specification's.
-/
module

public import proofs.«01_k».proof.Proof.KBits
public import proofs.«01_k».proof.Proof.KRounds
public import Idealize.ShloMosaic.Lib.Pointwise.Contract

@[expose] public section

set_option Elab.async false

noncomputable section

namespace Cert.RouterKernel

open Cert.KernelIdeal Cert.KernelIdeal.Gen Idealize.ShloMosaic Cert.Router

/-- An array re-laid to its own shape is itself. -/
theorem shapeCast_same {α : Type} {s : Shape} (x : s.Idx → α) (h : s.ShapeCasts s) : shapeCast s x h = x := by
  funext j
  unfold shapeCast
  exact congrArg x (Shape.reshapeEquiv_eq_of_vals _ _ _ _ _ rfl rfl rfl)

/-- The product of the weight rows with the tokens, at a place. -/
theorem prod_at (x0 : FVec Ideal S1024x4096 .f32) (x1 : FVec Ideal S128x4096 .f32) (r : Fin 128) (t : Fin 1024) :
    (k0_pay2 (F := Ideal) x0 x1 : FVec Ideal S128x1024 .f32) (ix2 r t) = dot (fun k => x0 (ix2 t k)) (fun k => x1 (ix2 r k)) := by
  unfold k0_pay2
  rw [shapeCast_same, shapeCast_same]
  show FloatOps.matmul (F := Ideal) _ _ _ _ _ _ = _
  rw [Ideal.matmul_constant_zero_apply, DotDims.sum_contr₁ _ (a := 1) (K := 4096) rfl rfl]
  unfold dot
  refine Finset.sum_congr rfl fun k _ => ?_
  have e1 : dot_S128x4096_S1024x4096_S128x1024_1_1_0_0_n_n.lhsIdx (ix2 r t) (DotDims.contrIdx₁ _ (a := 1) (K := 4096) rfl rfl k) = ix2 r k := by
    funext a; apply Fin.ext
    match a with
    | ⟨0, _⟩ => rfl
    | ⟨1, _⟩ => rfl
  have e2 : dot_S128x4096_S1024x4096_S128x1024_1_1_0_0_n_n.rhsIdx (ix2 r t) (DotDims.contrIdx₁ _ (a := 1) (K := 4096) rfl rfl k) = ix2 t k := by
    funext a; apply Fin.ext
    match a with
    | ⟨0, _⟩ => rfl
    | ⟨1, _⟩ => rfl
  rw [e1, e2]
  exact mul_comm _ _

/-- The router's logit at a place. -/
theorem pay3_at (x0 : FVec Ideal S1024x4096 .f32) (x1 : FVec Ideal S128x4096 .f32) (e : Fin 64) (t : Fin 1024) :
    (k0_pay3 (F := Ideal) x0 x1) (ix2 e t) = dot (fun k => x0 (ix2 t k)) (fun k => x1 (ix2 (⟨e.val, by omega⟩ : Fin 128) k)) := by
  refine Eq.trans (congrArg (k0_pay2 (F := Ideal) x0 x1) ?_) (prod_at x0 x1 ⟨e.val, by omega⟩ t)
  funext a; apply Fin.ext
  match a with
  | ⟨0, _⟩ => exact Nat.zero_add _
  | ⟨1, _⟩ => exact Nat.zero_add _

/-- The noise's logit at a place. -/
theorem pay4_at (x0 : FVec Ideal S1024x4096 .f32) (x1 : FVec Ideal S128x4096 .f32) (e : Fin 64) (t : Fin 1024) :
    (k0_pay4 (F := Ideal) x0 x1) (ix2 e t) = dot (fun k => x0 (ix2 t k)) (fun k => x1 (ix2 (⟨64 + e.val, by omega⟩ : Fin 128) k)) := by
  refine Eq.trans (congrArg (k0_pay2 (F := Ideal) x0 x1) ?_) (prod_at x0 x1 ⟨64 + e.val, by omega⟩ t)
  funext a; apply Fin.ext
  match a with
  | ⟨0, _⟩ => rfl
  | ⟨1, _⟩ => exact Nat.zero_add _

/-- The bias repeated along the tokens, at a place. -/
theorem bias_at (y : FVec Ideal S64x1 .f32) (e : Fin 64) (t : Fin 1024) :
    (broadcastTo S64x1024 (shapeCast S64x1 y shapeCasts_S64x1_S64x1) broadcasts_S64x1_S64x1024) (ix2 e t) = y (ix2 e 0) := by
  rw [shapeCast_same]
  refine congrArg y ?_
  funext a; apply Fin.ext
  match a with
  | ⟨0, _⟩ => rfl
  | ⟨1, _⟩ => rfl

/-- The body's softplus is the specification's. -/
theorem softplus_body (z : EReal) :
    Scalar.select (BitVec.ofBool (decide (z - 0 ≠ z - 0))) (z + 0) (max z 0 + Ideal.log1p (Ideal.exp (0 - max (z - 0) (-(z - 0))))) = softplus z := by
  rw [select_decide, if_neg (fun h => h rfl), sub_zero, zero_sub]
  rfl

/-- The sum the body makes of its draw, its two logits and its bias. -/
theorem pay39_at (a b : FVec Ideal S64x1024 .f32) (c : IVec S64x1024 32) (y : FVec Ideal S64x1 .f32) (e : Fin 64) (t : Fin 1024) :
    (k0_pay39 (F := Ideal) a b c 9#32 y) (ix2 e t) =
      (Ideal.ofBits .f32 (c (ix2 e t) >>> 9 ||| 1065353216#32) - 1) * softplus (b (ix2 e t)) + a (ix2 e t) + y (ix2 e 0) := by
  have h : (k0_pay39 (F := Ideal) a b c 9#32 y) (ix2 e t) =
      (Ideal.ofBits .f32 (IntOp.shrui .vector (c (ix2 e t)) 9#32 ||| 1065353216#32) - Ideal.ofBits .f32 0x3F800000#32) *
        Scalar.select (BitVec.ofBool (decide (b (ix2 e t) - Ideal.ofBits .f32 0x00000000#32 ≠ b (ix2 e t) - Ideal.ofBits .f32 0x00000000#32)))
          (b (ix2 e t) + Ideal.ofBits .f32 0x00000000#32)
          (max (b (ix2 e t)) (Ideal.ofBits .f32 0x00000000#32) + Ideal.log1p (Ideal.exp (Ideal.ofBits .f32 0x00000000#32 -
            max (b (ix2 e t) - Ideal.ofBits .f32 0x00000000#32) (-(b (ix2 e t) - Ideal.ofBits .f32 0x00000000#32)))))
        + a (ix2 e t) + (broadcastTo S64x1024 (shapeCast S64x1 y shapeCasts_S64x1_S64x1) broadcasts_S64x1_S64x1024) (ix2 e t) := rfl
  rw [h, bias_at, Ideal.ofBits_zero_f32, Ideal.ofBits_one_f32, softplus_body, shrui_lit _ _ _ (by decide)]
  rfl

/-- The block of noisy logits at a place: the step's token, the expert's rows of the stacked weights, and its bias. -/
theorem noisyB_at (i : grid0.Coords) (x0 : FVec Ideal S1024x4096 .f32) (x1 : FVec Ideal S128x4096 .f32) (x2 : FVec Ideal S64x1 .f32)
    (e : Fin 64) (t : Fin 1024) :
    noisyB i x0 x1 x2 (ix2 e t) = noisyOf (fun k => x0 (ix2 t k)) (fun e k => x1 (ix2 (⟨e.val, by omega⟩ : Fin 128) k))
      (fun e k => x1 (ix2 (⟨64 + e.val, by omega⟩ : Fin 128) k)) (fun e => x2 (ix2 e 0)) ((i 0).val * 1024 + t.val) e := by
  refine (pay39_at (k0_pay3 (F := Ideal) x0 x1) (k0_pay4 (F := Ideal) x0 x1) (k0_pay85 (F := Ideal) i x0 x1 x2) x2 e t).trans ?_
  rw [pay3_at, pay4_at, pay85_at]
  rfl

end Cert.RouterKernel

end
-- ==== Proof.KValue.lean ====
/-
  The kernel's two results: what its host operations hand the grid, the block of every step, the two arrays the blocks fill, and the
  results read at a place.
-/
module

public import proofs.«01_k».proof.Proof.KNoisy
public import proofs.«01_k».proof.Proof.Gen.KernelIdeal.Run
public import proofs.«01_k».proof.Proof.Gen.KernelIdeal.Read

@[expose] public section

set_option Elab.async false

noncomputable section

namespace Cert.RouterKernel

open Cert.KernelIdeal Cert.KernelIdeal.Gen Idealize.ShloMosaic Idealize.ShloMosaic.TcCoe Idealize.SL.Sem Cert.Router
open Idealize.ShloMosaic.Pipeline (Dat)

variable (m : (ℓ : Loc nD τ sig) → Buf (Elt Ideal) ℓ) (c : Dev nD)

/-- The tokens as the grid finds them. -/
def tokens : FVec Ideal S16384x4096 .f32 := V m c main_v0
/-- The stacked weights as the grid finds them. -/
def stacked : FVec Ideal S128x4096 .f32 := V m c main_v1
/-- The bias as the grid finds it. -/
def biases : FVec Ideal S64x1 .f32 := V m c main_v2

/-- The noisy logits of a token. -/
def keyOf (t : Fin 16384) : Fin 64 → EReal :=
  noisyOf (fun k => tokens m c (ix2 t k)) (fun e k => stacked m c (ix2 (⟨e.val, by omega⟩ : Fin 128) k))
    (fun e k => stacked m c (ix2 (⟨64 + e.val, by omega⟩ : Fin 128) k)) (fun e => biases m c (ix2 e 0)) t.val

/-- The probabilities, an expert in every row. -/
def probsT : FVec Ideal S64x16384 .f32 := fun i => probOf (keyOf m c (i 1)) (i 0)
/-- The positions, a round in every row. -/
def picksT : IVec S8x16384 32 := fun i => BitVec.ofNat 32 (picks (keyOf m c (i 1)) (i 0).val).val

/-- A step's coordinate is its number, below 16. -/
theorem step_val (t : Fin cfg0.N) : (grid0.coords t 0).val = t.val ∧ t.val < 16 := by
  revert t; decide +kernel

/-- The token at a place of a step's block. -/
def tokAt (t : Fin cfg0.N) (j : Fin 1024) : Fin 16384 := ⟨t.val * 1024 + j.val, by have := (step_val t).2; omega⟩

/-- Step t reads block t of the tokens. -/
theorem index0 (t : Fin cfg0.N) : win0_0.index t 0 = t.val ∧ win0_0.index t 1 = 0 := by revert t; decide +kernel
/-- Every step reads the one block of the stacked weights. -/
theorem index1 (t : Fin cfg0.N) : win0_1.index t 0 = 0 ∧ win0_1.index t 1 = 0 := by revert t; decide +kernel
/-- Every step reads the one block of biases. -/
theorem index2 (t : Fin cfg0.N) : win0_2.index t 0 = 0 ∧ win0_2.index t 1 = 0 := by revert t; decide +kernel
/-- Step t writes block t of the probabilities. -/
theorem index3 (t : Fin cfg0.N) : win0_3.index t 0 = 0 ∧ win0_3.index t 1 = t.val := by revert t; decide +kernel
/-- Step t writes block t of the selected experts. -/
theorem index4 (t : Fin cfg0.N) : win0_4.index t 0 = 0 ∧ win0_4.index t 1 = t.val := by revert t; decide +kernel

/-- The step's block of tokens, at a place. -/
theorem block0_at (t : Fin cfg0.N) (j : Fin 1024) (k : Fin 4096) :
    (iblk m c 0 t : FVec Ideal S1024x4096 .f32) (ix2 j k) = tokens m c (ix2 (tokAt t j) k) := by
  unfold iblk
  rw [View.read_apply, cast_eq]
  refine congrArg (tokens m c) ?_
  funext a; apply Fin.ext
  match a with
  | ⟨0, _⟩ =>
    show win0_0.index t 0 * 1024 + 1 * j.val = t.val * 1024 + j.val
    rw [(index0 t).1, Nat.one_mul]
  | ⟨1, _⟩ =>
    show win0_0.index t 1 * 4096 + 1 * k.val = k.val
    rw [(index0 t).2]; omega

/-- The step's block of weights, at a place. -/
theorem block1_at (t : Fin cfg0.N) (r : Fin 128) (k : Fin 4096) :
    (iblk m c 1 t : FVec Ideal S128x4096 .f32) (ix2 r k) = stacked m c (ix2 r k) := by
  unfold iblk
  rw [View.read_apply, cast_eq]
  refine congrArg (stacked m c) ?_
  funext a; apply Fin.ext
  match a with
  | ⟨0, _⟩ =>
    show win0_1.index t 0 * 128 + 1 * r.val = r.val
    rw [(index1 t).1]; omega
  | ⟨1, _⟩ =>
    show win0_1.index t 1 * 4096 + 1 * k.val = k.val
    rw [(index1 t).2]; omega

/-- The step's block of biases, at a place. -/
theorem block2_at (t : Fin cfg0.N) (e : Fin 64) (z : Fin 1) :
    (iblk m c 2 t : FVec Ideal S64x1 .f32) (ix2 e z) = biases m c (ix2 e z) := by
  unfold iblk
  rw [View.read_apply, cast_eq]
  refine congrArg (biases m c) ?_
  funext a; apply Fin.ext
  match a with
  | ⟨0, _⟩ =>
    show win0_2.index t 0 * 64 + 1 * e.val = e.val
    rw [(index2 t).1]; omega
  | ⟨1, _⟩ =>
    show win0_2.index t 1 * 1 + 1 * z.val = z.val
    rw [(index2 t).2]; omega

/-- A step's noisy logits, at a place, are its token's. -/
theorem step_key (t : Fin cfg0.N) (j : Fin 1024) (e : Fin 64) :
    noisyB (grid0.coords t) (iblk m c 0 t) (iblk m c 1 t) (iblk m c 2 t) (ix2 e j) = keyOf m c (tokAt t j) e := by
  rw [noisyB_at]
  simp only [block0_at, block1_at, block2_at]
  rw [(step_val t).1]
  rfl

/-- An index of a rectangle is its two coordinates. -/
theorem exists_ix2 {n k : ℕ} (i : Shape.Idx (⟨2, ![n, k]⟩ : Shape)) : ∃ (a : Fin n) (b : Fin k), i = ix2 a b :=
  ⟨i 0, i 1, funext fun a => by match a with | ⟨0, _⟩ => rfl | ⟨1, _⟩ => rfl⟩

/-- A step writes its block of the probabilities. -/
theorem flushed3 (t : Fin cfg0.N) : (dats m 0 c).flushed 3 t = (win0_3.blk t).view.read (Elt Ideal) (probsT m c) := by
  show (cfg0.win 3).cut (grid0.coords t) ((dats m 0 c).after 3 t) = _
  rw [after0_3, out3_eq]
  funext i
  obtain ⟨e, j, rfl⟩ : ∃ (e : Fin 64) (j : Fin 1024), i = ix2 e j := exists_ix2 i
  refine (prob_at (noisyB (grid0.coords t) (iblk m c 0 t) (iblk m c 1 t) (iblk m c 2 t)) (keyOf m c (tokAt t j)) j (step_key m c t j) e).trans ?_
  rw [View.read_apply, cast_eq]
  refine Eq.trans (b := probsT m c (ix2 e (tokAt t j))) rfl (congrArg (probsT m c) ?_)
  funext a; apply Fin.ext
  match a with
  | ⟨0, _⟩ =>
    show e.val = win0_3.index t 0 * 64 + 1 * e.val
    rw [(index3 t).1]; omega
  | ⟨1, _⟩ =>
    show t.val * 1024 + j.val = win0_3.index t 1 * 1024 + 1 * j.val
    rw [(index3 t).2]; omega

/-- A step writes its block of the positions. -/
theorem flushed4 (t : Fin cfg0.N) : (dats m 0 c).flushed 4 t = (win0_4.blk t).view.read (Elt Ideal) (picksT m c) := by
  show (cfg0.win 4).cut (grid0.coords t) ((dats m 0 c).after 4 t) = _
  rw [after0_4, out4_eq]
  funext i
  obtain ⟨r, j, rfl⟩ : ∃ (r : Fin 8) (j : Fin 1024), i = ix2 r j := exists_ix2 i
  refine (idxB_at (noisyB (grid0.coords t) (iblk m c 0 t) (iblk m c 1 t) (iblk m c 2 t)) (keyOf m c (tokAt t j)) j (step_key m c t j) r).trans ?_
  rw [View.read_apply, cast_eq]
  refine Eq.trans (b := picksT m c (ix2 r (tokAt t j))) rfl (congrArg (picksT m c) ?_)
  funext a; apply Fin.ext
  match a with
  | ⟨0, _⟩ =>
    show r.val = win0_4.index t 0 * 8 + 1 * r.val
    rw [(index4 t).1]; omega
  | ⟨1, _⟩ =>
    show t.val * 1024 + j.val = win0_4.index t 1 * 1024 + 1 * j.val
    rw [(index4 t).2]; omega

/-- Every place of the probabilities lies in the block of a step. -/
theorem cover3 (i : S64x16384.Idx) : ∃ t : Fin cfg0.N, (cfg0.win 3).flush t = true ∧ i ∈ ((cfg0.win 3).blk t).view.set := by
  have h0 : (i 0 : Nat) < 64 := (i 0).isLt
  have h1 : (i 1 : Nat) < 16384 := (i 1).isLt
  have hN : cfg0.N = 16 := N_0
  refine ⟨⟨(i 1 : Nat) / 1024, by omega⟩, flush0_3 _, ?_⟩
  generalize ht : (⟨(i 1 : Nat) / 1024, by omega⟩ : Fin cfg0.N) = t
  have hv : t.val = (i 1 : Nat) / 1024 := by rw [← ht]
  show i ∈ ((View.whole main_v3_0).slice (win0_3.rect t)).set
  rw [View.set_slice_whole, Rect.mem_set_unit]
  intro a
  match a with
  | ⟨0, _⟩ =>
    show win0_3.index t 0 * 64 ≤ (i 0 : Nat) ∧ (i 0 : Nat) < win0_3.index t 0 * 64 + 64
    rw [(index3 t).1]; omega
  | ⟨1, _⟩ =>
    show win0_3.index t 1 * 1024 ≤ (i 1 : Nat) ∧ (i 1 : Nat) < win0_3.index t 1 * 1024 + 1024
    rw [(index3 t).2]; omega

/-- Every place of the selected experts lies in the block of a step. -/
theorem cover4 (i : S8x16384.Idx) : ∃ t : Fin cfg0.N, (cfg0.win 4).flush t = true ∧ i ∈ ((cfg0.win 4).blk t).view.set := by
  have h0 : (i 0 : Nat) < 8 := (i 0).isLt
  have h1 : (i 1 : Nat) < 16384 := (i 1).isLt
  have hN : cfg0.N = 16 := N_0
  refine ⟨⟨(i 1 : Nat) / 1024, by omega⟩, flush0_4 _, ?_⟩
  generalize ht : (⟨(i 1 : Nat) / 1024, by omega⟩ : Fin cfg0.N) = t
  have hv : t.val = (i 1 : Nat) / 1024 := by rw [← ht]
  show i ∈ ((View.whole main_v3_1).slice (win0_4.rect t)).set
  rw [View.set_slice_whole, Rect.mem_set_unit]
  intro a
  match a with
  | ⟨0, _⟩ =>
    show win0_4.index t 0 * 8 ≤ (i 0 : Nat) ∧ (i 0 : Nat) < win0_4.index t 0 * 8 + 8
    rw [(index4 t).1]; omega
  | ⟨1, _⟩ =>
    show win0_4.index t 1 * 1024 ≤ (i 1 : Nat) ∧ (i 1 : Nat) < win0_4.index t 1 * 1024 + 1024
    rw [(index4 t).2]; omega

/-- The grid leaves the probabilities. -/
theorem final3 : Cert.KernelIdeal.Value.reg_main_v3_0 m c = probsT m c :=
  (dats m 0 c).arrAt_eq_of_cover 3 (probsT m c) (fun t _ => flushed3 m c t) cover3
/-- The grid leaves the positions. -/
theorem final4 : Cert.KernelIdeal.Value.reg_main_v3_1 m c = picksT m c :=
  (dats m 0 c).arrAt_eq_of_cover 4 (picksT m c) (fun t _ => flushed4 m c t) cover4

/-! The host operations. -/

section host
variable (x : FVec Ideal S4x4096x4096 .f32) (wr wn : FVec Ideal S64x4096 .f32) (b : FVec Ideal S64 .f32)

/-- The tokens the steps read are the first argument in one list. -/
theorem tokens_eq (hx : m ((c : Thread nD τ).loc main_arg0) = x) : tokens m c = shapeCast S16384x4096 x shapeCasts_S4x4096x4096_S16384x4096 := by
  subst hx
  unfold tokens V V0
  simp only [hostOps0, List.flatten_cons, List.flatten_nil, List.append_nil, List.cons_append, List.nil_append]
  after_results <;> rfl

/-- The stacked weights are the router's over the noise's. -/
theorem stacked_eq (hr : m ((c : Thread nD τ).loc main_arg1) = wr) (hn : m ((c : Thread nD τ).loc main_arg2) = wn) :
    stacked m c = concatenate S128x4096 0 [⟨S64x4096, wr⟩, ⟨S64x4096, wn⟩] concatenates_S64x4096_S64x4096_S128x4096_d0 := by
  subst hr hn
  unfold stacked V V0
  simp only [hostOps0, List.flatten_cons, List.flatten_nil, List.append_nil, List.cons_append, List.nil_append]
  after_results <;> rfl

/-- The biases are the last argument as a column. -/
theorem biases_eq (hb : m ((c : Thread nD τ).loc main_arg3) = b) : biases m c = shapeCast S64x1 b shapeCasts_S64_S64x1 := by
  subst hb
  unfold biases V V0
  simp only [hostOps0, List.flatten_cons, List.flatten_nil, List.append_nil, List.cons_append, List.nil_append]
  after_results <;> rfl
end host

end Cert.RouterKernel

end
-- ==== Proof.RefTf.lean ====
/-
  The reference's uniform draw, read: threefry's five groups on the counter words, and the word of each place.
-/
module

public import proofs.«01_k».proof.Proof.RefRun
public import proofs.«01_k».proof.Proof.Bits

@[expose] public section

set_option Elab.async false

noncomputable section

namespace Cert.RouterRef

open Cert.ReferenceIdeal Cert.ReferenceIdeal.Gen Idealize.ShloMosaic Idealize.ShloMosaic.TcCoe Idealize.SL.Sem Idealize.ShloMosaic.StableHlo Cert.Router

variable {F : FTy → Type} [FloatOps F]

/-- One round over a whole array, as the reference prints it. -/
abbrev mixV (l r : BitVec 32) (p : IVec S4x4096x64 32 × IVec S4x4096x64 32) : IVec S4x4096x64 32 × IVec S4x4096x64 32 :=
  (addi p.1 p.2, xori (addi p.1 p.2) (ori (Host.shli p.2 (broadcastInDim S4x4096x64 ![] bcast_S_S4x4096x64 (constantI S_ 32 l)))
    (Host.shrui p.2 (broadcastInDim S4x4096x64 ![] bcast_S_S4x4096x64 (constantI S_ 32 r)))))

/-- The array with one word everywhere. -/
abbrev fill (k : IVec S_ 32) : IVec S4x4096x64 32 := broadcastInDim S4x4096x64 ![] bcast_S_S4x4096x64 k

/-- The first four rotations over a whole array. -/
abbrev mixAV (p : IVec S4x4096x64 32 × IVec S4x4096x64 32) : IVec S4x4096x64 32 × IVec S4x4096x64 32 :=
  mixV 6#32 26#32 (mixV 26#32 6#32 (mixV 15#32 17#32 (mixV 13#32 19#32 p)))

/-- The other four rotations over a whole array. -/
abbrev mixBV (p : IVec S4x4096x64 32 × IVec S4x4096x64 32) : IVec S4x4096x64 32 × IVec S4x4096x64 32 :=
  mixV 24#32 8#32 (mixV 16#32 16#32 (mixV 29#32 3#32 (mixV 17#32 15#32 p)))

/-- A round of an array is a round of each element. -/
theorem mixV_at (l r : BitVec 32) (hl : l.toNat < 32) (hr : r.toNat < 32) (p : IVec S4x4096x64 32 × IVec S4x4096x64 32) (i : S4x4096x64.Idx) :
    ((mixV l r p).1 i, (mixV l r p).2 i) = mix l.toNat r.toNat (p.1 i, p.2 i) := by
  show (p.1 i + p.2 i, (p.1 i + p.2 i) ^^^ (IntOp.shli .host (p.2 i) l ||| IntOp.shrui .host (p.2 i) r)) = _
  rw [shli_lit _ _ _ hl, shrui_lit _ _ _ hr]; rfl

/-- The first four rotations, at an element. -/
theorem mixAV_at (p : IVec S4x4096x64 32 × IVec S4x4096x64 32) (i : S4x4096x64.Idx) :
    ((mixAV p).1 i, (mixAV p).2 i) = mixA (p.1 i, p.2 i) := by
  rw [mixV_at _ _ (by decide) (by decide), mixV_at _ _ (by decide) (by decide), mixV_at _ _ (by decide) (by decide),
    mixV_at _ _ (by decide) (by decide)]; rfl

/-- The other four rotations, at an element. -/
theorem mixBV_at (p : IVec S4x4096x64 32 × IVec S4x4096x64 32) (i : S4x4096x64.Idx) :
    ((mixBV p).1 i, (mixBV p).2 i) = mixB (p.1 i, p.2 i) := by
  rw [mixV_at _ _ (by decide) (by decide), mixV_at _ _ (by decide) (by decide), mixV_at _ _ (by decide) (by decide),
    mixV_at _ _ (by decide) (by decide)]; rfl

set_option maxRecDepth 16384 in
/-- Threefry's start: the key words added to the counter words, and the third key word. -/
theorem read_start (V : Valuation τ sig (Elt F)) (hi lo : IVec S4x4096x64 32) (k0 k1 : IVec S_ 32)
    (hhi : V (Proc.devRef .tc main_call0_v22) = hi) (hlo : V (Proc.devRef .tc main_call0_v21) = lo)
    (hk0 : V (Proc.devRef .tc main_call0_v5) = k0) (hk1 : V (Proc.devRef .tc main_call0_v7) = k1) :
    after (tfStart main_call0.v5 main_call0.v7 main_call0.v22 main_call0.v21 main_call0_call0) V (Proc.devRef .tc main_call0_call0_v3) = addi hi (fill k0)
    ∧ after (tfStart main_call0.v5 main_call0.v7 main_call0.v22 main_call0.v21 main_call0_call0) V (Proc.devRef .tc main_call0_call0_v5) = addi lo (fill k1)
    ∧ after (tfStart main_call0.v5 main_call0.v7 main_call0.v22 main_call0.v21 main_call0_call0) V (Proc.devRef .tc main_call0_call0_v1) = xori (xori k0 k1) (constantI S_ 32 466688986#32) := by
  subst hhi hlo hk0 hk1
  refine ⟨?_, ?_, ?_⟩ <;> (after_reads_simp; rfl)

set_option maxRecDepth 16384 in
/-- Threefry's first group. -/
theorem read_g1 (V : Valuation τ sig (Elt F)) (x0 x1 : IVec S4x4096x64 32) (k1 k2 : IVec S_ 32)
    (h0 : V (Proc.devRef .tc main_call0_call0_v3) = x0) (h1 : V (Proc.devRef .tc main_call0_call0_v5) = x1)
    (ha : V (Proc.devRef .tc main_call0_v7) = k1) (hb : V (Proc.devRef .tc main_call0_call0_v1) = k2) :
    after (tfGroup1 main_call0.v5 main_call0.v7 main_call0.v22 main_call0.v21 main_call0_call0) V (Proc.devRef .tc main_call0_call0_v35) = addi (mixAV (x0, x1)).1 (fill k1)
    ∧ after (tfGroup1 main_call0.v5 main_call0.v7 main_call0.v22 main_call0.v21 main_call0_call0) V (Proc.devRef .tc main_call0_call0_v39) =
      addi (addi (mixAV (x0, x1)).2 (fill k2)) (fill (constantI S_ 32 1#32)) := by
  subst h0 h1 ha hb
  constructor <;> (after_reads_simp; rfl)

set_option maxRecDepth 16384 in
/-- Threefry's second group. -/
theorem read_g2 (V : Valuation τ sig (Elt F)) (x0 x1 : IVec S4x4096x64 32) (k2 k0 : IVec S_ 32)
    (h0 : V (Proc.devRef .tc main_call0_call0_v35) = x0) (h1 : V (Proc.devRef .tc main_call0_call0_v39) = x1)
    (ha : V (Proc.devRef .tc main_call0_call0_v1) = k2) (hb : V (Proc.devRef .tc main_call0_v5) = k0) :
    after (tfGroup2 main_call0.v5 main_call0.v7 main_call0.v22 main_call0.v21 main_call0_call0) V (Proc.devRef .tc main_call0_call0_v69) = addi (mixBV (x0, x1)).1 (fill k2)
    ∧ after (tfGroup2 main_call0.v5 main_call0.v7 main_call0.v22 main_call0.v21 main_call0_call0) V (Proc.devRef .tc main_call0_call0_v73) =
      addi (addi (mixBV (x0, x1)).2 (fill k0)) (fill (constantI S_ 32 2#32)) := by
  subst h0 h1 ha hb
  constructor <;> (after_reads_simp; rfl)

set_option maxRecDepth 16384 in
/-- Threefry's third group. -/
theorem read_g3 (V : Valuation τ sig (Elt F)) (x0 x1 : IVec S4x4096x64 32) (k0 k1 : IVec S_ 32)
    (h0 : V (Proc.devRef .tc main_call0_call0_v69) = x0) (h1 : V (Proc.devRef .tc main_call0_call0_v73) = x1)
    (ha : V (Proc.devRef .tc main_call0_v5) = k0) (hb : V (Proc.devRef .tc main_call0_v7) = k1) :
    after (tfGroup3 main_call0.v5 main_call0.v7 main_call0.v22 main_call0.v21 main_call0_call0) V (Proc.devRef .tc main_call0_call0_v103) = addi (mixAV (x0, x1)).1 (fill k0)
    ∧ after (tfGroup3 main_call0.v5 main_call0.v7 main_call0.v22 main_call0.v21 main_call0_call0) V (Proc.devRef .tc main_call0_call0_v107) =
      addi (addi (mixAV (x0, x1)).2 (fill k1)) (fill (constantI S_ 32 3#32)) := by
  subst h0 h1 ha hb
  constructor <;> (after_reads_simp; rfl)

set_option maxRecDepth 16384 in
/-- Threefry's fourth group. -/
theorem read_g4 (V : Valuation τ sig (Elt F)) (x0 x1 : IVec S4x4096x64 32) (k1 k2 : IVec S_ 32)
    (h0 : V (Proc.devRef .tc main_call0_call0_v103) = x0) (h1 : V (Proc.devRef .tc main_call0_call0_v107) = x1)
    (ha : V (Proc.devRef .tc main_call0_v7) = k1) (hb : V (Proc.devRef .tc main_call0_call0_v1) = k2) :
    after (tfGroup4 main_call0.v5 main_call0.v7 main_call0.v22 main_call0.v21 main_call0_call0) V (Proc.devRef .tc main_call0_call0_v137) = addi (mixBV (x0, x1)).1 (fill k1)
    ∧ after (tfGroup4 main_call0.v5 main_call0.v7 main_call0.v22 main_call0.v21 main_call0_call0) V (Proc.devRef .tc main_call0_call0_v141) =
      addi (addi (mixBV (x0, x1)).2 (fill k2)) (fill (constantI S_ 32 4#32)) := by
  subst h0 h1 ha hb
  constructor <;> (after_reads_simp; rfl)

set_option maxRecDepth 16384 in
/-- Threefry's fifth group. -/
theorem read_g5 (V : Valuation τ sig (Elt F)) (x0 x1 : IVec S4x4096x64 32) (k2 k0 : IVec S_ 32)
    (h0 : V (Proc.devRef .tc main_call0_call0_v137) = x0) (h1 : V (Proc.devRef .tc main_call0_call0_v141) = x1)
    (ha : V (Proc.devRef .tc main_call0_call0_v1) = k2) (hb : V (Proc.devRef .tc main_call0_v5) = k0) :
    after (tfGroup5 main_call0.v5 main_call0.v7 main_call0.v22 main_call0.v21 main_call0_call0) V (Proc.devRef .tc main_call0_v23_0) = addi (mixAV (x0, x1)).1 (fill k2)
    ∧ after (tfGroup5 main_call0.v5 main_call0.v7 main_call0.v22 main_call0.v21 main_call0_call0) V (Proc.devRef .tc main_call0_v23_1) =
      addi (addi (mixAV (x0, x1)).2 (fill k0)) (fill (constantI S_ 32 5#32)) := by
  subst h0 h1 ha hb
  constructor <;> (after_reads_simp; rfl)

/-- Two literals added one after the other. -/
theorem add_lit (a b c d : BitVec 32) (h : b + c = d) : a + b + c = a + d := by rw [BitVec.add_assoc, h]

/-- The groups on a counter word: threefry's two words, at an element. -/
theorem words_at (hi lo : IVec S4x4096x64 32) (i : S4x4096x64.Idx) (hhi : hi i = 0#32)
    (k0 k1 k2 : IVec S_ 32) (hk0 : k0 = constantI S_ 32 0#32) (hk1 : k1 = constantI S_ 32 42#32)
    (hk2 : k2 = xori (xori k0 k1) (constantI S_ 32 466688986#32))
    (x1 y1 x2 y2 x3 y3 x4 y4 x5 y5 : IVec S4x4096x64 32)
    (h1 : x1 = addi (mixAV (addi hi (fill k0), addi lo (fill k1))).1 (fill k1) ∧ y1 = addi (addi (mixAV (addi hi (fill k0), addi lo (fill k1))).2 (fill k2)) (fill (constantI S_ 32 1#32)))
    (h2 : x2 = addi (mixBV (x1, y1)).1 (fill k2) ∧ y2 = addi (addi (mixBV (x1, y1)).2 (fill k0)) (fill (constantI S_ 32 2#32)))
    (h3 : x3 = addi (mixAV (x2, y2)).1 (fill k0) ∧ y3 = addi (addi (mixAV (x2, y2)).2 (fill k1)) (fill (constantI S_ 32 3#32)))
    (h4 : x4 = addi (mixBV (x3, y3)).1 (fill k1) ∧ y4 = addi (addi (mixBV (x3, y3)).2 (fill k2)) (fill (constantI S_ 32 4#32)))
    (h5 : x5 = addi (mixAV (x4, y4)).1 (fill k2) ∧ y5 = addi (addi (mixAV (x4, y4)).2 (fill k0)) (fill (constantI S_ 32 5#32))) :
    (x5 i, y5 i) = words (0#32, lo i + 42#32) := by
  subst hk0 hk1
  replace hk2 : k2 = constantI S_ 32 466689008#32 := by
    rw [hk2]; funext _
    show (0#32 ^^^ 42#32) ^^^ 466688986#32 = 466689008#32
    decide
  subst hk2
  have e1 : (x1 i, y1 i) = inj 42#32 466689009#32 (mixA (0#32, lo i + 42#32)) := by
    have h := mixAV_at (addi hi (fill (constantI S_ 32 0#32)), addi lo (fill (constantI S_ 32 42#32))) i
    rw [h1.1, h1.2]
    refine Eq.trans (b := inj 42#32 466689009#32 ((mixAV (addi hi (fill (constantI S_ 32 0#32)), addi lo (fill (constantI S_ 32 42#32)))).1 i, (mixAV (addi hi (fill (constantI S_ 32 0#32)), addi lo (fill (constantI S_ 32 42#32)))).2 i)) (Prod.ext rfl (add_lit _ 466689008#32 1#32 _ (by decide))) ?_
    rw [h]
    show inj 42#32 466689009#32 (mixA (hi i + 0#32, lo i + 42#32)) = _
    rw [hhi]; rfl
  have e2 : (x2 i, y2 i) = inj 466689008#32 2#32 (mixB (x1 i, y1 i)) := by
    rw [h2.1, h2.2, ← mixBV_at (x1, y1) i]
    exact Prod.ext rfl (add_lit _ 0#32 2#32 2#32 (by decide))
  have e3 : (x3 i, y3 i) = inj 0#32 45#32 (mixA (x2 i, y2 i)) := by
    rw [h3.1, h3.2, ← mixAV_at (x2, y2) i]
    exact Prod.ext rfl (add_lit _ 42#32 3#32 45#32 (by decide))
  have e4 : (x4 i, y4 i) = inj 42#32 466689012#32 (mixB (x3 i, y3 i)) := by
    rw [h4.1, h4.2, ← mixBV_at (x3, y3) i]
    exact Prod.ext rfl (add_lit _ 466689008#32 4#32 466689012#32 (by decide))
  have e5 : (x5 i, y5 i) = inj 466689008#32 5#32 (mixA (x4 i, y4 i)) := by
    rw [h5.1, h5.2, ← mixAV_at (x4, y4) i]
    exact Prod.ext rfl (add_lit _ 0#32 5#32 5#32 (by decide))
  rw [e5, e4, e3, e2, e1]; rfl

end Cert.RouterRef

end
-- ==== Proof.RefDraw.lean ====
/-
  The reference's noisy logits, at a place: its uniform draw, its softplus and its two products.
-/
module

public import proofs.«01_k».proof.Proof.RefTf
public import proofs.«01_k».proof.Proof.Spec
public import Idealize.ShloMosaic.Lib.Pipeline.Value

@[expose] public section

set_option Elab.async false

noncomputable section

namespace Cert.RouterRef

open Cert.ReferenceIdeal Cert.ReferenceIdeal.Gen Idealize.ShloMosaic Idealize.ShloMosaic.TcCoe Idealize.SL.Sem Idealize.ShloMosaic.StableHlo Cert.Router

section Words
variable {F : FTy → Type} [FloatOps F]

set_option maxRecDepth 16384 in
/-- The products' window: the key, and the two bounds of the draw. -/
theorem read_head (V : Valuation τ sig (Elt F)) :
    after mHead V (Proc.devRef .tc main_v10) =
      concatenate S2 0 [⟨S1, broadcastInDim S1 ![] bcast_S_S1 (Host.shrui (constantI S_ 32 42#32) (constantI S_ 32 32#32))⟩,
        ⟨S1, broadcastInDim S1 ![] bcast_S_S1 (andi (constantI S_ 32 42#32) (constantI S_ 32 4294967295#32))⟩] concatenates_S1_S1_S2_d0
    ∧ after mHead V (Proc.devRef .tc main_cst) = constant S_ .f32 0x00000000#32
    ∧ after mHead V (Proc.devRef .tc main_cst_2) = constant S_ .f32 0x3F800000#32 := by
  refine ⟨?_, ?_, ?_⟩ <;> (after_reads_simp <;> rfl)

set_option maxRecDepth 16384 in
/-- The draw's counts. -/
theorem read_unHead (V : Valuation τ sig (Elt F)) (k : IVec S2 32) (lo hi : FVec F S_ .f32)
    (hk : V (Proc.devRef .tc main_v10) = k) (hlo : V (Proc.devRef .tc main_cst) = lo) (hhi : V (Proc.devRef .tc main_cst_2) = hi) :
    after (unHead (.of main_v10) (.of main_cst) (.of main_cst_2) main_call0) V (Proc.devRef .tc main_call0_v5) =
      shapeCast S_ (extractStridedSlice S1 ![0] k slices_S2_S1_0) shapeCasts_S1_S_
    ∧ after (unHead (.of main_v10) (.of main_cst) (.of main_cst_2) main_call0) V (Proc.devRef .tc main_call0_v7) =
      shapeCast S_ (extractStridedSlice S1 ![1] k slices_S2_S1_1) shapeCasts_S1_S_
    ∧ after (unHead (.of main_v10) (.of main_cst) (.of main_cst_2) main_call0) V (Proc.devRef .tc main_call0_v2) =
      broadcastInDim S1x1x1 ![] bcast_S_S1x1x1 lo
    ∧ after (unHead (.of main_v10) (.of main_cst) (.of main_cst_2) main_call0) V (Proc.devRef .tc main_call0_v3) =
      broadcastInDim S1x1x1 ![] bcast_S_S1x1x1 hi := by
  subst hk hlo hhi
  refine ⟨?_, ?_, ?_, ?_⟩ <;> (after_reads_simp <;> rfl)

/-- The 64-bit number of each place. -/
abbrev counts : IVec S4x4096x64 64 :=
  addi (addi (muli (broadcastInDim S4x4096x64 ![] bcast_S_S4x4096x64 (constantI S_ 64 262144#64)) (iotaInDim S4x4096x64 64 0))
    (muli (broadcastInDim S4x4096x64 ![] bcast_S_S4x4096x64 (constantI S_ 64 64#64)) (iotaInDim S4x4096x64 64 1)))
    (muli (broadcastInDim S4x4096x64 ![] bcast_S_S4x4096x64 (constantI S_ 64 1#64)) (iotaInDim S4x4096x64 64 2))

set_option maxRecDepth 16384 in
/-- The draw's counter words. -/
theorem read_counts (V : Valuation τ sig (Elt F)) :
    after (unHead (.of main_v10) (.of main_cst) (.of main_cst_2) main_call0) V (Proc.devRef .tc main_call0_v21) = trunci 32 counts natLt_32_64
    ∧ after (unHead (.of main_v10) (.of main_cst) (.of main_cst_2) main_call0) V (Proc.devRef .tc main_call0_v22) =
      trunci 32 (Host.shrui counts (broadcastInDim S4x4096x64 ![] bcast_S_S4x4096x64 (constantI S_ 64 32#64))) natLt_32_64 := by
  refine ⟨?_, ?_⟩ <;> (after_reads_simp <;> rfl)

set_option maxRecDepth 16384 in
/-- The draw's end. -/
theorem read_unTail (V : Valuation τ sig (Elt F)) (x y : IVec S4x4096x64 32) (lo hi : FVec F S1x1x1 .f32)
    (hx : V (Proc.devRef .tc main_call0_v23_0) = x) (hy : V (Proc.devRef .tc main_call0_v23_1) = y)
    (hlo : V (Proc.devRef .tc main_call0_v2) = lo) (hhi : V (Proc.devRef .tc main_call0_v3) = hi) :
    after (unTail (.of main_v10) (.of main_cst) (.of main_cst_2) main_call0) V (Proc.devRef .tc main_v11) =
      maximumf (broadcastInDim S4x4096x64 ![0, 1, 2] bcast_S1x1x1_S4x4096x64_0_1_2 lo)
        (addf (mulf (subf (bitcastToFloat .f32 (ori (Host.shrui (xori x y) (broadcastInDim S4x4096x64 ![] bcast_S_S4x4096x64 (constantI S_ 32 9#32)))
            (broadcastInDim S4x4096x64 ![] bcast_S_S4x4096x64 (constantI S_ 32 1065353216#32))))
          (broadcastInDim S4x4096x64 ![] bcast_S_S4x4096x64 (constant S_ .f32 0x3F800000#32)))
          (broadcastInDim S4x4096x64 ![0, 1, 2] bcast_S1x1x1_S4x4096x64_0_1_2 (subf hi lo)))
          (broadcastInDim S4x4096x64 ![0, 1, 2] bcast_S1x1x1_S4x4096x64_0_1_2 lo)) := by
  subst hx hy hlo hhi
  after_reads_simp <;> rfl

set_option maxRecDepth 16384 in
/-- The softplus. -/
theorem read_sp (V : Valuation τ sig (Elt F)) (z : FVec F S4x4096x64 .f32) (hz : V (Proc.devRef .tc main_v3) = z) :
    after (spOps (.of main_v3) main_call1) V (Proc.devRef .tc main_v12) =
      (let o := broadcastInDim S4x4096x64 ![] bcast_S_S4x4096x64 (constant S_ .f32 0x00000000#32 : FVec F S_ .f32)
       select (cmpf .une (subf z o) (subf z o)) (addf z o)
        (addf (maximumf z o) (Host.log1p (Host.exp (Host.negf (Host.absf (subf z o))))))) := by
  subst hz
  after_reads_simp <;> rfl

set_option maxRecDepth 16384 in
/-- The noisy logits. -/
theorem read_noisy (V : Valuation τ sig (Elt F)) (u s l : FVec F S4x4096x64 .f32) (b : FVec F S64 .f32)
    (hu : V (Proc.devRef .tc main_v11) = u) (hs : V (Proc.devRef .tc main_v12) = s) (hl : V (Proc.devRef .tc main_v1) = l)
    (hb : V (Proc.devRef .tc main_arg3) = b) :
    after mNoisy V (Proc.devRef .tc main_v17) = addf (addf (mulf u s) l)
      (broadcastInDim S4x4096x64 ![0, 1, 2] bcast_S1x1x64_S4x4096x64_0_1_2 (broadcastInDim S1x1x64 ![2] bcast_S64_S1x1x64_2 b)) := by
  subst hu hs hl hb
  after_reads_simp <;> rfl

set_option maxRecDepth 16384 in
/-- The two products. -/
theorem read_dots (V : Valuation τ sig (Elt F)) :
    after mHead V (Proc.devRef .tc main_v1) = Host.dotGeneral dot_S4x4096x4096_S4096x64_S4x4096x64_2_0_01_1_n_n none
      (V (Proc.devRef .tc main_arg0) : FVec F S4x4096x4096 .f32) (transpose S4096x64 [1, 0] (V (Proc.devRef .tc main_arg1) : FVec F S64x4096 .f32) transposes_S64x4096_S4096x64_1_0)
    ∧ after mHead V (Proc.devRef .tc main_v3) = Host.dotGeneral dot_S4x4096x4096_S4096x64_S4x4096x64_2_0_01_1_n_n none
      (V (Proc.devRef .tc main_arg0) : FVec F S4x4096x4096 .f32) (transpose S4096x64 [1, 0] (V (Proc.devRef .tc main_arg2) : FVec F S64x4096 .f32) transposes_S64x4096_S4096x64_1_0) := by
  constructor <;> (after_reads_simp <;> rfl)

/-- The number of a place. -/
theorem counts_at (i : S4x4096x64.Idx) :
    counts i = BitVec.ofNat 64 (((i 0).val * 4096 + (i 1).val) * 64 + (i 2).val) := by
  show 262144#64 * BitVec.ofNat 64 (i 0).val + 64#64 * BitVec.ofNat 64 (i 1).val + 1#64 * BitVec.ofNat 64 (i 2).val = _
  apply BitVec.eq_of_toNat_eq
  simp
  omega

/-- The place's number fits 32 bits. -/
theorem place_lt (i : S4x4096x64.Idx) : ((i 0).val * 4096 + (i 1).val) * 64 + (i 2).val < 1048576 := by
  have h0 : (i 0).val < 4 := (i 0).isLt
  have h1 : (i 1).val < 4096 := (i 1).isLt
  have h2 : (i 2).val < 64 := (i 2).isLt
  omega

/-- The lower counter word of a place is its number. -/
theorem lo_at (i : S4x4096x64.Idx) :
    trunci 32 counts natLt_32_64 i = BitVec.ofNat 32 (((i 0).val * 4096 + (i 1).val) * 64 + (i 2).val) := by
  show (counts i).setWidth 32 = _
  rw [counts_at]
  apply BitVec.eq_of_toNat_eq
  have := place_lt i
  simp

/-- The upper counter word of a place is 0. -/
theorem hi_at (i : S4x4096x64.Idx) :
    trunci 32 (Host.shrui counts (broadcastInDim S4x4096x64 ![] bcast_S_S4x4096x64 (constantI S_ 64 32#64))) natLt_32_64 i = 0#32 := by
  show (IntOp.shrui .host (counts i) 32#64).setWidth 32 = _
  rw [counts_at, IntOp.shrui, if_pos (by decide)]
  apply BitVec.eq_of_toNat_eq
  have := place_lt i
  simp [Nat.shiftRight_eq_div_pow]
  omega

/-- The one index of a single entry. -/
abbrev zeroIx : S1.Idx := fun a => ⟨0, by have h : a = (0 : Fin 1) := Subsingleton.elim (α := Fin 1) _ _; subst h; decide⟩

/-- The first key word. -/
theorem key0 : shapeCast S_ (extractStridedSlice S1 ![0] (concatenate S2 0
    [⟨S1, broadcastInDim S1 ![] bcast_S_S1 (Host.shrui (constantI S_ 32 42#32) (constantI S_ 32 32#32))⟩,
      ⟨S1, broadcastInDim S1 ![] bcast_S_S1 (andi (constantI S_ 32 42#32) (constantI S_ 32 4294967295#32))⟩] concatenates_S1_S1_S2_d0)
    slices_S2_S1_0) shapeCasts_S1_S_ = constantI S_ 32 0#32 := by
  funext j
  unfold shapeCast extractStridedSlice
  refine (concatenate_pair_apply_left (t := S2) (s₁ := S1) (s₂ := S1) _ _ _ _ _ rfl zeroIx fun b => ?_).trans ?_
  · have hb : b = 0 := Subsingleton.elim _ _
    subst hb
    have := (Shape.reshapeEquiv shapeCasts_S1_S_ j 0).isLt
    have h1 : (Shape.reshapeEquiv shapeCasts_S1_S_ j 0).val = 0 := Nat.lt_one_iff.mp this
    exact (congrArg (0 + ·) h1).symm
  · rfl

/-- The second key word. -/
theorem key1 : shapeCast S_ (extractStridedSlice S1 ![1] (concatenate S2 0
    [⟨S1, broadcastInDim S1 ![] bcast_S_S1 (Host.shrui (constantI S_ 32 42#32) (constantI S_ 32 32#32))⟩,
      ⟨S1, broadcastInDim S1 ![] bcast_S_S1 (andi (constantI S_ 32 42#32) (constantI S_ 32 4294967295#32))⟩] concatenates_S1_S1_S2_d0)
    slices_S2_S1_1) shapeCasts_S1_S_ = constantI S_ 32 42#32 := by
  funext j
  unfold shapeCast extractStridedSlice
  refine (concatenate_pair_apply_right (t := S2) (s₁ := S1) (s₂ := S1) _ _ _ _ _ rfl rfl zeroIx (fun b hb => ?_) ?_).trans ?_
  · exact absurd (Subsingleton.elim (α := Fin 1) _ _) hb
  · have := (Shape.reshapeEquiv shapeCasts_S1_S_ j 0).isLt
    have h1 : (Shape.reshapeEquiv shapeCasts_S1_S_ j 0).val = 0 := Nat.lt_one_iff.mp this
    exact (congrArg (1 + ·) h1).symm
  · rfl

/-- The buffers after threefry's start and its five groups. -/
abbrev tfAfter (V : Valuation τ sig (Elt F)) : Valuation τ sig (Elt F) :=
  after (tfGroup5 main_call0.v5 main_call0.v7 main_call0.v22 main_call0.v21 main_call0_call0)
    (after (tfGroup4 main_call0.v5 main_call0.v7 main_call0.v22 main_call0.v21 main_call0_call0)
    (after (tfGroup3 main_call0.v5 main_call0.v7 main_call0.v22 main_call0.v21 main_call0_call0)
    (after (tfGroup2 main_call0.v5 main_call0.v7 main_call0.v22 main_call0.v21 main_call0_call0)
    (after (tfGroup1 main_call0.v5 main_call0.v7 main_call0.v22 main_call0.v21 main_call0_call0)
    (after (tfStart main_call0.v5 main_call0.v7 main_call0.v22 main_call0.v21 main_call0_call0) V)))))

set_option maxRecDepth 16384 in
/-- Threefry's two words of each place, over the counts and the key. -/
theorem read_words (V : Valuation τ sig (Elt F)) (i : S4x4096x64.Idx) (lo hi : IVec S4x4096x64 32) (hhi : hi i = 0#32)
    (h22 : V (Proc.devRef .tc main_call0_v22) = hi) (h21 : V (Proc.devRef .tc main_call0_v21) = lo)
    (k0 k1 : IVec S_ 32) (e0 : k0 = constantI S_ 32 0#32) (e1 : k1 = constantI S_ 32 42#32)
    (hk0 : V (Proc.devRef .tc main_call0_v5) = k0) (hk1 : V (Proc.devRef .tc main_call0_v7) = k1) (x y : IVec S4x4096x64 32)
    (hx : tfAfter V (Proc.devRef .tc main_call0_v23_0) = x) (hy : tfAfter V (Proc.devRef .tc main_call0_v23_1) = y) :
    (x i, y i) = words (0#32, lo i + 42#32) := by
  unfold tfAfter at hx hy
  obtain ⟨s0, s1, s2⟩ := read_start V hi lo k0 k1 h22 h21 hk0 hk1
  have a0 := (tfStart_keep V (r := main_call0_v5) (by decide +kernel)).trans hk0
  have a1 := (tfStart_keep V (r := main_call0_v7) (by decide +kernel)).trans hk1
  generalize after (tfStart main_call0.v5 main_call0.v7 main_call0.v22 main_call0.v21 main_call0_call0) V = V1 at s0 s1 s2 a0 a1 hx hy
  have g1 := read_g1 V1 _ _ k1 _ s0 s1 a1 s2
  have b0 := (tfGroup1_keep V1 (r := main_call0_v5) (by decide +kernel)).trans a0
  have b1 := (tfGroup1_keep V1 (r := main_call0_v7) (by decide +kernel)).trans a1
  have b2 := (tfGroup1_keep V1 (r := main_call0_call0_v1) (by decide +kernel)).trans s2
  generalize after (tfGroup1 main_call0.v5 main_call0.v7 main_call0.v22 main_call0.v21 main_call0_call0) V1 = V2 at g1 b0 b1 b2 hx hy
  have g2 := read_g2 V2 _ _ _ k0 rfl rfl b2 b0
  have c0 := (tfGroup2_keep V2 (r := main_call0_v5) (by decide +kernel)).trans b0
  have c1 := (tfGroup2_keep V2 (r := main_call0_v7) (by decide +kernel)).trans b1
  have c2 := (tfGroup2_keep V2 (r := main_call0_call0_v1) (by decide +kernel)).trans b2
  generalize after (tfGroup2 main_call0.v5 main_call0.v7 main_call0.v22 main_call0.v21 main_call0_call0) V2 = V3 at g2 c0 c1 c2 hx hy
  have g3 := read_g3 V3 _ _ k0 k1 rfl rfl c0 c1
  have d0 := (tfGroup3_keep V3 (r := main_call0_v5) (by decide +kernel)).trans c0
  have d1 := (tfGroup3_keep V3 (r := main_call0_v7) (by decide +kernel)).trans c1
  have d2 := (tfGroup3_keep V3 (r := main_call0_call0_v1) (by decide +kernel)).trans c2
  generalize after (tfGroup3 main_call0.v5 main_call0.v7 main_call0.v22 main_call0.v21 main_call0_call0) V3 = V4 at g3 d0 d1 d2 hx hy
  have g4 := read_g4 V4 _ _ k1 _ rfl rfl d1 d2
  have f0 := (tfGroup4_keep V4 (r := main_call0_v5) (by decide +kernel)).trans d0
  have f2 := (tfGroup4_keep V4 (r := main_call0_call0_v1) (by decide +kernel)).trans d2
  generalize after (tfGroup4 main_call0.v5 main_call0.v7 main_call0.v22 main_call0.v21 main_call0_call0) V4 = V5 at g4 f0 f2 hx hy
  have g5 := read_g5 V5 _ _ _ k0 rfl rfl f2 f0
  rw [hx, hy] at g5
  exact words_at hi lo i hhi k0 k1 _ e0 e1 rfl _ _ _ _ _ _ _ _ _ _ g1 g2 g3 g4 g5

end Words

/-- The draw of a place, at the ideal reals. -/
theorem draw_at (V : Valuation τ sig (Elt Ideal)) (i : S4x4096x64.Idx) :
    (after (unOps (.of main_v10) (.of main_cst) (.of main_cst_2) main_call0) (after mHead V) (Proc.devRef .tc main_v11) : FVec Ideal S4x4096x64 .f32) i =
      unif (BitVec.ofNat 32 (((i 0).val * 4096 + (i 1).val) * 64 + (i 2).val)) := by
  rw [after_un]
  obtain ⟨p0, p1, p2⟩ := read_head V
  generalize after mHead V = V0 at p0 p1 p2 ⊢
  obtain ⟨q0, q1, q2, q3⟩ := read_unHead V0 _ _ _ p0 p1 p2
  obtain ⟨r0, r1⟩ := read_counts V0
  generalize after (unHead (.of main_v10) (.of main_cst) (.of main_cst_2) main_call0) V0 = V1 at q0 q1 q2 q3 r0 r1 ⊢
  obtain ⟨x, hx⟩ : ∃ x : IVec S4x4096x64 32, tfAfter V1 (Proc.devRef .tc main_call0_v23_0) = x := ⟨_, rfl⟩
  obtain ⟨y, hy⟩ : ∃ y : IVec S4x4096x64 32, tfAfter V1 (Proc.devRef .tc main_call0_v23_1) = y := ⟨_, rfl⟩
  have hw := read_words V1 i _ _ (hi_at i) r1 r0 _ _ key0 key1 q0 q1 x y hx hy
  rw [lo_at] at hw
  change (after (unTail (.of main_v10) (.of main_cst) (.of main_cst_2) main_call0) (tfAfter V1) (Proc.devRef .tc main_v11) : FVec Ideal S4x4096x64 .f32) i = _
  have k2 : ∀ r ∈ [main_call0_v2, main_call0_v3], tfAfter V1 (Proc.devRef .tc r) = V1 (Proc.devRef .tc r) := by
    intro r hr
    have hd : ∀ r ∈ [main_call0_v2, main_call0_v3], r ∉ tfStartW ∧ r ∉ tfGroup1W ∧ r ∉ tfGroup2W ∧ r ∉ tfGroup3W ∧ r ∉ tfGroup4W ∧ r ∉ tfGroup5W := by
      decide +kernel
    obtain ⟨h0, h1, h2, h3, h4, h5⟩ := hd r hr
    unfold tfAfter
    rw [tfGroup5_keep _ h5, tfGroup4_keep _ h4, tfGroup3_keep _ h3, tfGroup2_keep _ h2, tfGroup1_keep _ h1, tfStart_keep _ h0]
  have m2 := (k2 main_call0_v2 (by simp)).trans q2
  have m3 := (k2 main_call0_v3 (by simp)).trans q3
  generalize tfAfter V1 = V2 at hx hy m2 m3 ⊢
  rw [read_unTail V2 x y _ _ hx hy m2 m3]
  generalize (((i 0).val * 4096 + (i 1).val) * 64 + (i 2).val) = n at hw ⊢
  have hu : x i ^^^ y i = word (BitVec.ofNat 32 n) := by
    have h1 := congrArg Prod.fst hw
    have h2 := congrArg Prod.snd hw
    dsimp only at h1 h2
    rw [h1, h2]; rfl
  show max (Ideal.ofBits .f32 0x00000000#32) ((Ideal.ofBits .f32 (IntOp.shrui .host (x i ^^^ y i) 9#32 ||| 1065353216#32) - Ideal.ofBits .f32 0x3F800000#32)
    * (Ideal.ofBits .f32 0x3F800000#32 - Ideal.ofBits .f32 0x00000000#32) + Ideal.ofBits .f32 0x00000000#32) = _
  rw [hu, shrui_lit _ _ _ (by decide), Ideal.ofBits_zero_f32, Ideal.ofBits_one_f32]
  show max 0 (unif (BitVec.ofNat 32 n) * (1 - 0) + 0) = _
  obtain ⟨r, hr, e⟩ := unif_real (BitVec.ofNat 32 n)
  rw [e, sub_zero, mul_one, add_zero]
  exact max_eq_right (by exact_mod_cast hr)

/-- The softplus the reference computes, at the ideal reals. -/
theorem sp_at (z : FVec Ideal S4x4096x64 .f32) (i : S4x4096x64.Idx) :
    (let o := broadcastInDim S4x4096x64 ![] bcast_S_S4x4096x64 (constant S_ .f32 0x00000000#32 : FVec Ideal S_ .f32);
      (select (cmpf .une (subf z o) (subf z o)) (addf z o)
        (addf (maximumf z o) (Host.log1p (Host.exp (Host.negf (Host.absf (subf z o)))))) : FVec Ideal S4x4096x64 .f32)) i = softplus (z i) := by
  show Scalar.select (BitVec.ofBool (decide (z i - Ideal.ofBits .f32 0x00000000#32 ≠ z i - Ideal.ofBits .f32 0x00000000#32)))
    (z i + Ideal.ofBits .f32 0x00000000#32)
    (max (z i) (Ideal.ofBits .f32 0x00000000#32) + Ideal.log1p (Ideal.exp (-(max (z i - Ideal.ofBits .f32 0x00000000#32) (-(z i - Ideal.ofBits .f32 0x00000000#32)))))) = _
  rw [Ideal.ofBits_zero_f32, sub_zero]
  unfold Scalar.select
  rw [if_neg (by simp)]
  rfl

end Cert.RouterRef

end
-- ==== Proof.RefNoisy.lean ====
/-
  The reference's noisy logits at a place are the specification's.
-/
module

public import proofs.«01_k».proof.Proof.RefDraw
public import Idealize.ShloMosaic.Lib.Pointwise.Contract
public import Idealize.ShloMosaic.Lib.ValueIdx

@[expose] public section

set_option Elab.async false

noncomputable section

namespace Cert.RouterRef

open Cert.ReferenceIdeal Cert.ReferenceIdeal.Gen Idealize.ShloMosaic Idealize.ShloMosaic.TcCoe Idealize.SL.Sem Idealize.ShloMosaic.StableHlo Cert.Router

/-- The product of the tokens with an expert's weights, at a place. -/
theorem dot_at (x : FVec Ideal S4x4096x4096 .f32) (w : FVec Ideal S64x4096 .f32) (i : S4x4096x64.Idx) :
    (Host.dotGeneral dot_S4x4096x4096_S4096x64_S4x4096x64_2_0_01_1_n_n none x
      (transpose S4096x64 [1, 0] w transposes_S64x4096_S4096x64_1_0) : FVec Ideal S4x4096x64 .f32) i =
      dot (fun k => x (ix3 (i 0) (i 1) k)) (fun k => w (ix2 (i 2) k)) := by
  show FloatOps.dotGeneral (F := Ideal) _ _ _ _ _ _ = _
  rw [Ideal.dotGeneral_apply, DotDims.sum_contr₁ _ (a := 2) (K := 4096) rfl rfl]
  unfold dot
  refine Finset.sum_congr rfl fun k _ => ?_
  have e1 : dot_S4x4096x4096_S4096x64_S4x4096x64_2_0_01_1_n_n.lhsIdx i (DotDims.contrIdx₁ _ (a := 2) (K := 4096) rfl rfl k) = ix3 (i 0) (i 1) k := by
    funext a; apply Fin.ext
    match a with
    | ⟨0, _⟩ => rfl
    | ⟨1, _⟩ => rfl
    | ⟨2, _⟩ => rfl
  rw [e1]
  congr 1
  refine congrArg w ?_
  funext a; apply Fin.ext
  match a with
  | ⟨0, _⟩ => rfl
  | ⟨1, _⟩ => rfl

/-- The buffers up to the noisy logits. -/
abbrev noisyAfter (V : Valuation τ sig (Elt Ideal)) : Valuation τ sig (Elt Ideal) :=
  after mNoisy (after (spOps (.of main_v3) main_call1) (after (unOps (.of main_v10) (.of main_cst) (.of main_cst_2) main_call0) (after mHead V)))

/-- The reference's noisy logit at a place. -/
theorem noisy_at (V : Valuation τ sig (Elt Ideal)) (x : FVec Ideal S4x4096x4096 .f32) (wr wn : FVec Ideal S64x4096 .f32) (b : FVec Ideal S64 .f32)
    (hx : V (Proc.devRef .tc main_arg0) = x) (hr : V (Proc.devRef .tc main_arg1) = wr) (hn : V (Proc.devRef .tc main_arg2) = wn)
    (hb : V (Proc.devRef .tc main_arg3) = b) (i : S4x4096x64.Idx) :
    (noisyAfter V (Proc.devRef .tc main_v17) : FVec Ideal S4x4096x64 .f32) i =
      noisyOf (fun k => x (ix3 (i 0) (i 1) k)) (fun e k => wr (ix2 e k)) (fun e k => wn (ix2 e k)) (fun e => b (ix1 e))
        ((i 0).val * 4096 + (i 1).val) (i 2) := by
  obtain ⟨u, hu⟩ : ∃ u : FVec Ideal S4x4096x64 .f32,
    after (unOps (.of main_v10) (.of main_cst) (.of main_cst_2) main_call0) (after mHead V) (Proc.devRef .tc main_v11) = u := ⟨_, rfl⟩
  have hui : u i = _ := hu ▸ draw_at V i
  obtain ⟨d1, d2⟩ := read_dots V
  rw [hx, hr] at d1
  rw [hx, hn] at d2
  have hb0 := (mHead_keep V (r := main_arg3) (by decide +kernel)).trans hb
  have hd : ∀ r ∈ [main_arg3, main_v1, main_v3], r ∉ unHeadW ∧ r ∉ tfStartW ∧ r ∉ tfGroup1W ∧ r ∉ tfGroup2W ∧ r ∉ tfGroup3W ∧ r ∉ tfGroup4W ∧ r ∉ tfGroup5W
      ∧ r ∉ unTailW := by decide +kernel
  have hk : ∀ r ∈ [main_arg3, main_v1, main_v3], after (unOps (.of main_v10) (.of main_cst) (.of main_cst_2) main_call0) (after mHead V) (Proc.devRef .tc r) =
      after mHead V (Proc.devRef .tc r) := fun r hr => by
    obtain ⟨h0, h1, h2, h3, h4, h5, h6, h7⟩ := hd r hr
    exact un_keep _ h0 h1 h2 h3 h4 h5 h6 h7
  have hb1 := (hk main_arg3 (by simp)).trans hb0
  have hl1 := (hk main_v1 (by simp)).trans d1
  have hz1 := (hk main_v3 (by simp)).trans d2
  unfold noisyAfter
  generalize after (unOps (.of main_v10) (.of main_cst) (.of main_cst_2) main_call0) (after mHead V) = V1 at hu hb1 hl1 hz1 ⊢
  have hs := read_sp V1 _ hz1
  have hu2 := (spOps_keep V1 (r := main_v11) (by decide +kernel)).trans hu
  have hb2 := (spOps_keep V1 (r := main_arg3) (by decide +kernel)).trans hb1
  have hl2 := (spOps_keep V1 (r := main_v1) (by decide +kernel)).trans hl1
  generalize after (spOps (.of main_v3) main_call1) V1 = V2 at hs hu2 hb2 hl2 ⊢
  rw [read_noisy V2 _ _ _ _ hu2 hs hl2 hb2]
  show (u i * _ + _) + _ = _
  rw [sp_at, dot_at, dot_at, hui]
  unfold noisyOf
  congr 1
  refine congrArg b ?_
  funext a; apply Fin.ext
  match a with
  | ⟨0, _⟩ => rfl

end Cert.RouterRef

end
-- ==== Proof.RefTop.lean ====
/-
  The reference's eight greatest of a row, the table it writes them by, the row written, and its softmax, at a place.
-/
module

public import proofs.«01_k».proof.Proof.RefNoisy
public import Idealize.ShloMosaic.Lib.Routing.OpsSet
public import Idealize.ShloMosaic.Lib.Routing.OpsPair
public import Idealize.ShloMosaic.Lib.Pointwise.Reshape
public import Idealize.ShloMosaic.Lib.Pipeline.Value
public import Idealize.ShloMosaic.Lib.KernelVsHost
public import Idealize.ShloMosaic.Lib.IdealHost
public import Idealize.ShloMosaic.Lib.WordArith

@[expose] public section

set_option Elab.async false

noncomputable section

namespace Cert.RouterRef

open Cert.ReferenceIdeal Cert.ReferenceIdeal.Gen Idealize.ShloMosaic Idealize.ShloMosaic.TcCoe Idealize.SL.Sem Idealize.ShloMosaic.StableHlo Cert.Router

/-- Replacing the last coordinate of an index. -/
theorem along_last (a : Fin 4) (b : Fin 4096) (e k : Fin 64) :
    Shape.Idx.along (s := S4x4096x64) (ix3 a b e) 2 k = ix3 a b k := by
  unfold Shape.Idx.along
  funext d
  match d with
  | ⟨0, _⟩ => exact Function.update_of_ne (fun h => absurd (congrArg Fin.val h) (show ¬ (0 : ℕ) = 2 by decide)) _ _
  | ⟨1, _⟩ => exact Function.update_of_ne (fun h => absurd (congrArg Fin.val h) (show ¬ (1 : ℕ) = 2 by decide)) _ _
  | ⟨2, _⟩ => exact Function.update_self _ _ _

/-- The eight greatest of a row and their positions are the eight selections of the row. -/
theorem topK_at (x : FVec Ideal S4x4096x64 .f32) (key : Fin 64 → EReal) (a : Fin 4) (b : Fin 4096)
    (hx : ∀ e, x (ix3 a b e) = key e) (hk : ∀ e, ⊥ < key e) (r : Fin 8) :
    ((Host.topK S4x4096x8 2 (FloatOps.cmpfTotal .gt) x sliceFits_S4x4096x64_S4x4096x8).1 : FVec Ideal S4x4096x8 .f32) (ix3 a b r)
        = key (picks key r.val)
      ∧ ((Host.topK S4x4096x8 2 (FloatOps.cmpfTotal .gt) x sliceFits_S4x4096x64_S4x4096x8).2 : IVec S4x4096x8 32) (ix3 a b r)
        = BitVec.ofNat 32 (picks key r.val).val := by
  have hj : (fun d => ⟨0 + (ix3 a b r d).val, by
      match d with
      | ⟨0, _⟩ => have := a.isLt; show 0 + a.val < 4; omega
      | ⟨1, _⟩ => have := b.isLt; show 0 + b.val < 4096; omega
      | ⟨2, _⟩ => have := r.isLt; show 0 + r.val < 64; omega⟩ : S4x4096x64.Idx) = ix3 a b (r.castLE (by decide)) := by
    funext d; apply Fin.ext
    match d with
    | ⟨0, _⟩ => exact Nat.zero_add _
    | ⟨1, _⟩ => exact Nat.zero_add _
    | ⟨2, _⟩ => exact Nat.zero_add _
  have hs : sortedFrom (fun k k' : Fin 64 => FloatOps.cmpfTotal (F := Ideal) (φ := .f32) .gt
        (x (Shape.Idx.along (s := S4x4096x64) (ix3 a b (r.castLE (by decide))) 2 k))
        (x (Shape.Idx.along (s := S4x4096x64) (ix3 a b (r.castLE (by decide))) 2 k')) == 1#1) (r.castLE (by decide)) = picks key r.val := by
    refine sortedFrom_picks key hk _ (fun k k' => ?_) r
    rw [along_last, along_last, hx, hx]
    show (BitVec.ofBool (decide (key k' < key k)) == 1#1) = _
    cases decide (key k' < key k) <;> rfl
  constructor
  · show x (Shape.Idx.along (s := S4x4096x64) (fun d => ⟨0 + (ix3 a b r d).val, _⟩) 2 (sortedFrom (fun k k' => FloatOps.cmpfTotal (F := Ideal) (φ := .f32) .gt
        (x (Shape.Idx.along (s := S4x4096x64) (fun d => ⟨0 + (ix3 a b r d).val, _⟩) 2 k))
        (x (Shape.Idx.along (s := S4x4096x64) (fun d => ⟨0 + (ix3 a b r d).val, _⟩) 2 k')) == 1#1) ((fun d => ⟨0 + (ix3 a b r d).val, _⟩ : S4x4096x64.Idx) 2))) = _
    rw [hj]
    exact (congrArg (fun k : Fin 64 => x (Shape.Idx.along (s := S4x4096x64) (ix3 a b (r.castLE (by decide))) 2 k)) hs).trans (by rw [along_last, hx])
  · show BitVec.ofNat 32 ((Shape.Idx.along (s := S4x4096x64) (fun d => ⟨0 + (ix3 a b r d).val, _⟩) 2 (sortedFrom (fun k k' => FloatOps.cmpfTotal (F := Ideal) (φ := .f32) .gt
        (x (Shape.Idx.along (s := S4x4096x64) (fun d => ⟨0 + (ix3 a b r d).val, _⟩) 2 k))
        (x (Shape.Idx.along (s := S4x4096x64) (fun d => ⟨0 + (ix3 a b r d).val, _⟩) 2 k')) == 1#1) ((fun d => ⟨0 + (ix3 a b r d).val, _⟩ : S4x4096x64.Idx) 2))) 2).val = _
    rw [hj]
    exact (congrArg (fun k : Fin 64 => BitVec.ofNat 32 ((Shape.Idx.along (s := S4x4096x64) (ix3 a b (r.castLE (by decide))) 2 k) 2).val) hs).trans
      (by rw [along_last]; rfl)

/-- The batch of a token number. -/
abbrev tokA (t : Fin 16384) : Fin 4 := ⟨t.val / 4096, by omega⟩
/-- The place in its batch of a token number. -/
abbrev tokB (t : Fin 16384) : Fin 4096 := ⟨t.val % 4096, by omega⟩

/-- The rows of eight, numbered by token. -/
theorem rows8_at {α : Type} (x : S4x4096x8.Idx → α) (t : Fin 16384) (r : Fin 8) :
    shapeCast S16384x8 x shapeCasts_S4x4096x8_S16384x8 (ix2 t r) = x (ix3 (tokA t) (tokB t) r) := by
  unfold shapeCast
  refine congrArg x (Shape.reshapeEquiv_eq_of_vals _ _ _ _ _ (rowMajor_val3 _ 32768 8 rfl rfl) (rowMajor_val2 _ 8 rfl) ?_)
  show t.val / 4096 * 32768 + t.val % 4096 * 8 + r.val = t.val * 8 + r.val
  omega

/-- The rows by token, in the batches again. -/
theorem rows64_at {α : Type} (x : S16384x64.Idx → α) (a : Fin 4) (b : Fin 4096) (e : Fin 64) (t : Fin 16384) (ht : t.val = a.val * 4096 + b.val) :
    shapeCast S4x4096x64 x shapeCasts_S16384x64_S4x4096x64 (ix3 a b e) = x (ix2 t e) := by
  unfold shapeCast
  refine congrArg x (Shape.reshapeEquiv_eq_of_vals _ _ _ _ _ (rowMajor_val2 _ 64 rfl) (rowMajor_val3 _ 262144 64 rfl rfl) ?_)
  show t.val * 64 + e.val = a.val * 262144 + b.val * 64 + e.val
  omega

/-- The table of places: a row's token number and a selected position. -/
def tabOf (ids : IVec S16384x8 32) : IVec S16384x8x2 32 :=
  let t := broadcastInDim S16384x1 ![0] bcast_S16384_S16384x1_0 (iotaInDim S16384 32 0);
  let ts := select (cmpi .slt t (broadcastInDim S16384x1 ![] bcast_S_S16384x1 (constantI S_ 32 0#32)))
    (addi t (broadcastInDim S16384x1 ![] bcast_S_S16384x1 (constantI S_ 32 16384#32))) t;
  let es := select (cmpi .slt ids (broadcastInDim S16384x8 ![] bcast_S_S16384x8 (constantI S_ 32 0#32)))
    (addi ids (broadcastInDim S16384x8 ![] bcast_S_S16384x8 (constantI S_ 32 64#32))) ids;
  concatenate S16384x8x2 2 [⟨S16384x8x1, broadcastInDim S16384x8x1 ![0, 1] bcast_S16384x8_S16384x8x1_0_1
      (broadcastInDim S16384x8 ![0, 1] bcast_S16384x1_S16384x8_0_1 ts)⟩,
    ⟨S16384x8x1, broadcastInDim S16384x8x1 ![0, 1] bcast_S16384x8_S16384x8x1_0_1 es⟩] concatenates_S16384x8x1_S16384x8x1_S16384x8x2_d2

/-- The table's first word is the token number. -/
theorem tab_fst (ids : IVec S16384x8 32) (t : Fin 16384) (r : Fin 8) : (tabOf ids (ix3 t r 0)).toInt = t.val := by
  unfold tabOf
  rw [concatenate_pair_apply_left (t := S16384x8x2) (s₁ := S16384x8x1) (s₂ := S16384x8x1) 2 _ _ _ (ix3 t r 0) rfl (ix3 t r 0) (fun d => by
    match d with
    | ⟨0, _⟩ => rfl
    | ⟨1, _⟩ => rfl
    | ⟨2, _⟩ => rfl)]
  show (Scalar.select (IntOp.cmpi .slt (BitVec.ofNat 32 t.val) 0#32) _ (BitVec.ofNat 32 t.val)).toInt = _
  have ht := t.isLt
  rw [Routing.wrap_of_lt _ _ (by rw [BitVec.toNat_ofNat]; omega), StableHlo.Predicate.toInt_ofNat_small _ (by omega)]

/-- A table's entries, each a row of one. -/
theorem unit_at {α : Type} (y : S16384x8.Idx → α) (t : Fin 16384) (r : Fin 8) (z : Fin 1) :
    broadcastInDim S16384x8x1 ![0, 1] bcast_S16384x8_S16384x8x1_0_1 y (ix3 t r z) = y (ix2 t r) := by
  refine congrArg y ?_
  funext a; apply Fin.ext
  match a with
  | ⟨0, _⟩ => rfl
  | ⟨1, _⟩ => rfl

/-- A column repeated along the rows. -/
theorem col_at {α : Type} (t : Fin 16384) (e : Fin 64) (y : S16384.Idx → α) :
    broadcastInDim S16384x64 ![0, 1] bcast_S16384x1_S16384x64_0_1 (broadcastInDim S16384x1 ![0] bcast_S16384_S16384x1_0 y) (ix2 t e) = y (ix1 t) := by
  refine congrArg y ?_
  funext a; apply Fin.ext
  match a with
  | ⟨0, _⟩ => rfl

/-- The table's second word is the selected position. -/
theorem tab_snd (ids : IVec S16384x8 32) (t : Fin 16384) (r : Fin 8) (p : Fin 64) (h : ids (ix2 t r) = BitVec.ofNat 32 p.val) :
    (tabOf ids (ix3 t r 1)).toInt = p.val := by
  unfold tabOf
  rw [concatenate_pair_apply_right (t := S16384x8x2) (s₁ := S16384x8x1) (s₂ := S16384x8x1) 2 _ _ _ (ix3 t r 1) rfl rfl (ix3 t r 0) (fun d hd => by
    match d, hd with
    | ⟨0, _⟩, _ => rfl
    | ⟨1, _⟩, _ => rfl
    | ⟨2, _⟩, hd => exact absurd rfl hd) rfl]
  rw [unit_at]
  show (Scalar.select (IntOp.cmpi .slt (ids (ix2 t r)) 0#32) _ (ids (ix2 t r))).toInt = _
  have hp := p.isLt
  rw [h, Routing.wrap_of_lt _ _ (by rw [BitVec.toNat_ofNat]; omega), StableHlo.Predicate.toInt_ofNat_small _ (by omega)]

/-- The row written: −∞, and over it the selected values at their places. -/
def rowOf (tab : IVec S16384x8x2 32) (vals : FVec Ideal S16384x8 .f32) : FVec Ideal S16384x64 .f32 :=
  Host.scatter scatter_S16384x64_S16384x8x2_S16384x8_n_01_01_2 (fun _ b => b)
    (broadcastInDim S16384x64 ![] bcast_S_S16384x64 (constant S_ .f32 0xFF800000#32 : FVec Ideal S_ .f32)) tab vals

/-- Where a value lands. -/
theorem lands (tab : IVec S16384x8x2 32) (t' : Fin 16384) (r : Fin 8) (t : Fin 16384) (e : Fin 64) :
    scatter_S16384x64_S16384x8x2_S16384x8_n_01_01_2.resultIdx? (ix2 t' r) tab = some (ix2 t e) ↔
      (tab (ix3 t' r 0)).toInt = t.val ∧ (tab (ix3 t' r 1)).toInt = e.val :=
  Routing.scatter_lands2 scatter_S16384x64_S16384x8x2_S16384x8_n_01_01_2 rfl rfl rfl tab t' r t e

/-- An index of the selected entries is its two coordinates. -/
theorem exists_ix2 (k : S16384x8.Idx) : ∃ (t : Fin 16384) (r : Fin 8), k = ix2 t r :=
  ⟨k 0, k 1, by
    funext a
    match a with
    | ⟨0, _⟩ => rfl
    | ⟨1, _⟩ => rfl⟩

/-- A selected place of the row has its logit, any other −∞. -/
theorem row_at (ids : IVec S16384x8 32) (vals : FVec Ideal S16384x8 .f32) (t : Fin 16384) (key : Fin 64 → EReal)
    (hi : ∀ r : Fin 8, ids (ix2 t r) = BitVec.ofNat 32 (picks key r.val).val) (hv : ∀ r : Fin 8, vals (ix2 t r) = key (picks key r.val))
    (e : Fin 64) :
    (Chosen key e → rowOf (tabOf ids) vals (ix2 t e) = key e) ∧ (¬ Chosen key e → rowOf (tabOf ids) vals (ix2 t e) = ⊥) := by
  have hland : ∀ (k : S16384x8.Idx), scatter_S16384x64_S16384x8x2_S16384x8_n_01_01_2.resultIdx? k (tabOf ids) = some (ix2 t e) ↔
      k 0 = t ∧ picks key (k 1).val = e := fun k => by
    obtain ⟨t', r, rfl⟩ := exists_ix2 k
    rw [lands (tabOf ids) t' r t e, tab_fst]
    show _ ↔ t' = t ∧ picks key r.val = e
    constructor
    · rintro ⟨h0, h1⟩
      have h0 : t' = t := Fin.ext (by exact_mod_cast h0)
      refine ⟨h0, Fin.ext ?_⟩
      rw [h0, tab_snd ids t r _ (hi r)] at h1
      exact_mod_cast h1
    · rintro ⟨h0, h1⟩
      rw [h0, tab_snd ids t r _ (hi r), h1]
      exact ⟨rfl, rfl⟩
  constructor
  · rintro ⟨j, hj, hje⟩
    refine Routing.scatter_set_hit _ _ _ _ (ix2 t e) (key e) (fun k hk => ?_) (ix2 t ⟨j, hj⟩) ((hland _).mpr ⟨rfl, hje⟩)
    obtain ⟨h0, h1⟩ := (hland k).mp hk
    obtain ⟨t', r, rfl⟩ := exists_ix2 k
    have h0 : t' = t := h0
    have h1 : picks key r.val = e := h1
    rw [h0, hv r, h1]
  · intro hn
    unfold rowOf
    rw [Routing.scatter_set_miss _ _ _ _ (ix2 t e) fun k hk => hn ⟨(k 1).val, (k 1).isLt, ((hland k).mp hk).2⟩]
    exact ofBits_neg_inf

/-- The largest of a list of numbers, folded from −∞, is the one no other is above. -/
theorem fold_max_eq {n : ℕ} (f : Fin n → EReal) (p : Fin n) (h : ∀ k, f k ≤ f p) :
    (Finset.univ : Finset (Fin n)).fold max ⊥ f = f p :=
  le_antisymm ((Finset.fold_max_le _).mpr ⟨bot_le, fun k _ => h k⟩) ((Finset.le_fold_max _).mpr (Or.inr ⟨p, Finset.mem_univ _, le_rfl⟩))

/-- The greatest of every row. -/
def maxOf (s : FVec Ideal S16384x64 .f32) : FVec Ideal S16384 .f32 :=
  maximumf (broadcastInDim S16384 ![] bcast_S_S16384 (constant S_ .f32 0xFF800000#32 : FVec Ideal S_ .f32))
    (Host.reduce FloatOps.maximumf s (constant S_ .f32 0xFF800000#32 : FVec Ideal S_ .f32) reducesTo_S16384x64_S16384_d1 h_S_)

/-- A number of every row, repeated along it. -/
def colOf (y : FVec Ideal S16384 .f32) : FVec Ideal S16384x64 .f32 :=
  broadcastInDim S16384x64 ![0, 1] bcast_S16384x1_S16384x64_0_1 (broadcastInDim S16384x1 ![0] bcast_S16384_S16384x1_0 y)

/-- The exponentials of the row less its greatest. -/
def expOf (s : FVec Ideal S16384x64 .f32) : FVec Ideal S16384x64 .f32 := Host.exp (subf s (colOf (maxOf s)))

/-- The sum of every row. -/
def sumOf (x : FVec Ideal S16384x64 .f32) : FVec Ideal S16384 .f32 :=
  Host.reduceAdd x (constant S_ .f32 0x00000000#32 : FVec Ideal S_ .f32) reducesTo_S16384x64_S16384_d1 h_S_

/-- The quotient by the row's sum, in the batches. -/
def quotOf (x : FVec Ideal S16384x64 .f32) : FVec Ideal S4x4096x64 .f32 :=
  shapeCast S4x4096x64 (Host.divf x (colOf (sumOf x))) shapeCasts_S16384x64_S4x4096x64

/-- A row's reduction over the experts is well-formed. -/
theorem reduces_row : S16384x64.Reduces [1] S16384 := by decide

/-- The place a row's reduction reads for an expert. -/
theorem lift_row (t : Fin 16384) (k : Fin 64) : reduces_row.lift (ix1 t) k = ix2 t k := by
  funext a; apply Fin.ext
  match a with
  | ⟨0, _⟩ => rfl
  | ⟨1, _⟩ => rfl

/-- The greatest of a row. -/
theorem rowMax_at (s : FVec Ideal S16384x64 .f32) (t : Fin 16384) (p : Fin 64) (h : ∀ k, s (ix2 t k) ≤ s (ix2 t p)) :
    Host.reduce FloatOps.maximumf s (constant S_ .f32 0xFF800000#32 : FVec Ideal S_ .f32) reducesTo_S16384x64_S16384_d1 h_S_ (ix1 t) = s (ix2 t p) := by
  rw [hostReduce_maximumf_eq_multiReduction s 0xFF800000#32 reducesTo_S16384x64_S16384_d1 h_S_ reduces_row (by decide) (by decide),
    Ideal.multiReduction_maximumf_single]
  show (Finset.univ : Finset (Fin 64)).fold max (Ideal.ofBits .f32 0xFF800000#32) (fun k => s (reduces_row.lift (ix1 t) k)) = _
  rw [ofBits_neg_inf]
  have e : (fun k : Fin 64 => s (reduces_row.lift (ix1 t) k)) = fun k => s (ix2 t k) := funext fun k => congrArg s (lift_row t k)
  exact (congrArg (fun f : Fin 64 → EReal => (Finset.univ : Finset (Fin 64)).fold max ⊥ f) e).trans (fold_max_eq (fun k => s (ix2 t k)) p h)

/-- The greatest of a row, beside −∞. -/
theorem maxOf_at (s : FVec Ideal S16384x64 .f32) (t : Fin 16384) (p : Fin 64) (h : ∀ k, s (ix2 t k) ≤ s (ix2 t p)) :
    maxOf s (ix1 t) = s (ix2 t p) := by
  have e : ∀ y z : FVec Ideal S16384 .f32, maximumf y z (ix1 t) = max (y (ix1 t)) (z (ix1 t)) := fun _ _ => rfl
  have e' : (broadcastInDim S16384 ![] bcast_S_S16384 (constant S_ .f32 0xFF800000#32 : FVec Ideal S_ .f32)) (ix1 t) = Ideal.ofBits .f32 0xFF800000#32 := rfl
  unfold maxOf
  rw [e, rowMax_at s t p h, e', ofBits_neg_inf, max_eq_right bot_le]

/-- The exponentials at a place. -/
theorem expOf_apply (s : FVec Ideal S16384x64 .f32) (i : S16384x64.Idx) : expOf s i = Ideal.exp (s i - colOf (maxOf s) i) := by
  unfold expOf
  generalize colOf (maxOf s) = m
  rfl

/-- The exponentials are the weights. -/
theorem exp_at (ids : IVec S16384x8 32) (vals : FVec Ideal S16384x8 .f32) (t : Fin 16384) (key : Fin 64 → EReal)
    (hi : ∀ r : Fin 8, ids (ix2 t r) = BitVec.ofNat 32 (picks key r.val).val) (hv : ∀ r : Fin 8, vals (ix2 t r) = key (picks key r.val))
    (e : Fin 64) : expOf (rowOf (tabOf ids) vals) (ix2 t e) = weight key e := by
  have hrow := row_at ids vals t key hi hv
  generalize rowOf (tabOf ids) vals = s at hrow ⊢
  have hc : Chosen key (picks key 0) := ⟨0, by decide, rfl⟩
  have hm : ∀ k, s (ix2 t k) ≤ s (ix2 t (picks key 0)) := fun k => by
    rw [(hrow _).1 hc]
    by_cases h : Chosen key k
    · rw [(hrow k).1 h]; exact (pick_spec key).1 k
    · rw [(hrow k).2 h]; exact bot_le
  have hM : colOf (maxOf s) (ix2 t e) = s (ix2 t (picks key 0)) := by
    exact (col_at t e (maxOf s)).trans (maxOf_at s t (picks key 0) hm)
  rw [expOf_apply, hM, (hrow _).1 hc]
  unfold weight
  by_cases h : Chosen key e
  · rw [if_pos h, (hrow e).1 h]
  · rw [if_neg h, (hrow e).2 h, sub_eq_add_neg, EReal.bot_add, Ideal.exp_bot]

/-- The sum of a row of weights. -/
theorem sum_at (x : FVec Ideal S16384x64 .f32) (t : Fin 16384) (key : Fin 64 → EReal) (hx : ∀ e, x (ix2 t e) = weight key e) :
    sumOf x (ix1 t) = ∑ k, weight key k := by
  unfold sumOf
  rw [ValueIdx.hostReduceAdd_apply, Ideal.hostReduceAdd_single reducesTo_S16384x64_S16384_d1 reduces_row]
  have e : ∀ k : Fin 64, x (reduces_row.lift (ix1 t) k) = weight key k := fun k => (congrArg x (lift_row t k)).trans (hx k)
  refine (congrArg₂ (· + ·) Ideal.ofBits_zero_f32 (Finset.sum_congr rfl fun k _ => e k)).trans (zero_add _)

/-- The quotients are the probabilities. -/
theorem quot_at (x : FVec Ideal S16384x64 .f32) (key : Fin 64 → EReal) (a : Fin 4) (b : Fin 4096) (t : Fin 16384) (ht : t.val = a.val * 4096 + b.val)
    (hx : ∀ e, x (ix2 t e) = weight key e) (e : Fin 64) : quotOf x (ix3 a b e) = probOf key e := by
  have hS : colOf (sumOf x) (ix2 t e) = ∑ k, weight key k := (col_at t e (sumOf x)).trans (sum_at x t key hx)
  exact (rows64_at _ a b e t ht).trans ((ValueIdx.hostDivf_apply x (colOf (sumOf x)) (ix2 t e)).trans (congrArg₂ Ideal.div (hx e) hS))

end Cert.RouterRef

end
-- ==== Proof.RefValue.lean ====
/-
  The reference's results at a place are the specification's.
-/
module

public import proofs.«01_k».proof.Proof.RefTop
public import proofs.«01_k».proof.Proof.RefRun

@[expose] public section

set_option Elab.async false

noncomputable section

namespace Cert.RouterRef

open Cert.ReferenceIdeal Cert.ReferenceIdeal.Gen Idealize.ShloMosaic Idealize.ShloMosaic.TcCoe Idealize.SL.Sem Idealize.ShloMosaic.StableHlo Cert.Router

set_option maxRecDepth 16384 in
/-- The selected values and positions, the fill and the table. -/
theorem read_top (V : Valuation τ sig (Elt Ideal)) (x : FVec Ideal S4x4096x64 .f32) (hx : V (Proc.devRef .tc main_v17) = x) :
    after mTop V (Proc.devRef .tc main_indices) = (Host.topK S4x4096x8 2 (FloatOps.cmpfTotal .gt) x sliceFits_S4x4096x64_S4x4096x8).2
    ∧ after mTop V (Proc.devRef .tc main_v19) = shapeCast S16384x8 (Host.topK S4x4096x8 2 (FloatOps.cmpfTotal .gt) x sliceFits_S4x4096x64_S4x4096x8).1
        shapeCasts_S4x4096x8_S16384x8
    ∧ after mTop V (Proc.devRef .tc main_v23) = broadcastInDim S16384x64 ![] bcast_S_S16384x64 (constant S_ .f32 0xFF800000#32 : FVec Ideal S_ .f32)
    ∧ after mTop V (Proc.devRef .tc main_v37) = tabOf (shapeCast S16384x8 (Host.topK S4x4096x8 2 (FloatOps.cmpfTotal .gt) x sliceFits_S4x4096x64_S4x4096x8).2
        shapeCasts_S4x4096x8_S16384x8) := by
  subst hx
  unfold tabOf
  refine ⟨?_, ?_, ?_, ?_⟩
  · after_reads_simp
  · after_reads_simp
    rfl
  · after_reads_simp
  · after_reads_simp
    refine congrArg₂ (fun a b : IVec S16384x8x1 32 => concatenate S16384x8x2 2 [⟨S16384x8x1, a⟩, ⟨S16384x8x1, b⟩]
      concatenates_S16384x8x1_S16384x8x1_S16384x8x2_d2) ?_ ?_
    · after_reads_simp
    · after_reads_simp
      rfl

set_option maxRecDepth 16384 in
/-- The exponentials. -/
theorem read_soft (V : Valuation τ sig (Elt Ideal)) (vals : FVec Ideal S16384x8 .f32) (tab : IVec S16384x8x2 32)
    (h19 : V (Proc.devRef .tc main_v19) = vals) (h37 : V (Proc.devRef .tc main_v37) = tab)
    (h23 : V (Proc.devRef .tc main_v23) = broadcastInDim S16384x64 ![] bcast_S_S16384x64 (constant S_ .f32 0xFF800000#32 : FVec Ideal S_ .f32)) :
    after mSoft V (Proc.devRef .tc main_v45) = expOf (rowOf tab vals) := by
  subst h19 h37
  unfold expOf colOf maxOf rowOf
  rw [← h23]
  after_reads_simp <;> rfl

set_option maxRecDepth 16384 in
/-- The quotients. -/
theorem read_last (V : Valuation τ sig (Elt Ideal)) (x : FVec Ideal S16384x64 .f32) (hx : V (Proc.devRef .tc main_v45) = x) :
    after mLast V (Proc.devRef .tc main_v50) = quotOf x := by
  subst hx
  unfold quotOf colOf sumOf
  after_reads_simp <;> rfl

/-- The noisy logits of the token at a place of the batches. -/
abbrev rowKey (x : FVec Ideal S4x4096x4096 .f32) (wr wn : FVec Ideal S64x4096 .f32) (bias : FVec Ideal S64 .f32) (a : Fin 4) (b : Fin 4096) :
    Fin 64 → EReal :=
  noisyOf (fun k => x (ix3 a b k)) (fun e k => wr (ix2 e k)) (fun e k => wn (ix2 e k)) (fun e => bias (ix1 e)) (a.val * 4096 + b.val)

/-- The reference's results: the probabilities, and the selected positions. -/
theorem results_at (V : Valuation τ sig (Elt Ideal)) (x : FVec Ideal S4x4096x4096 .f32) (wr wn : FVec Ideal S64x4096 .f32) (bias : FVec Ideal S64 .f32)
    (hx : V (Proc.devRef .tc main_arg0) = x) (hr : V (Proc.devRef .tc main_arg1) = wr) (hn : V (Proc.devRef .tc main_arg2) = wn)
    (hb : V (Proc.devRef .tc main_arg3) = bias) (rx : ∀ i, IsReal (x i)) (rr : ∀ i, IsReal (wr i)) (rb : ∀ i, ⊥ < bias i)
    (a : Fin 4) (b : Fin 4096) :
    (∀ e : Fin 64, (after ops V (Proc.devRef .tc main_v50) : FVec Ideal S4x4096x64 .f32) (ix3 a b e) = probOf (rowKey x wr wn bias a b) e) ∧
    (∀ r : Fin 8, (after ops V (Proc.devRef .tc main_indices) : IVec S4x4096x8 32) (ix3 a b r) =
      BitVec.ofNat 32 (picks (rowKey x wr wn bias a b) r.val).val) := by
  have hkey : ∀ a b e, ⊥ < rowKey x wr wn bias a b e := fun a b e =>
    noisyOf_above (fun _ => rx _) (fun _ _ => rr _) (fun _ => rb _) _ _
  have hN : ∀ (a : Fin 4) (b : Fin 4096) (e : Fin 64), (noisyAfter V (Proc.devRef .tc main_v17) : FVec Ideal S4x4096x64 .f32) (ix3 a b e) =
      rowKey x wr wn bias a b e := fun a b e => noisy_at V x wr wn bias hx hr hn hb (ix3 a b e)
  generalize rowKey x wr wn bias = key at hkey hN ⊢
  rw [after_ops]
  change ∀ (a : Fin 4) (b : Fin 4096) (e : Fin 64), ((after mNoisy (after (spOps (.of main_v3) main_call1)
    (after (unOps (.of main_v10) (.of main_cst) (.of main_cst_2) main_call0) (after mHead V))) (Proc.devRef .tc main_v17) : FVec Ideal S4x4096x64 .f32)) (ix3 a b e) = _ at hN
  generalize after mNoisy (after (spOps (.of main_v3) main_call1)
    (after (unOps (.of main_v10) (.of main_cst) (.of main_cst_2) main_call0) (after mHead V))) = V1 at hN ⊢
  obtain ⟨N, hV⟩ : ∃ N : FVec Ideal S4x4096x64 .f32, V1 (Proc.devRef .tc main_v17) = N := ⟨_, rfl⟩
  obtain ⟨t1, t2, t3, t4⟩ := read_top V1 N hV
  rw [hV] at hN
  have htop := fun a b r => topK_at N (key a b) a b (hN a b) (hkey a b) r
  generalize (Host.topK S4x4096x8 2 (FloatOps.cmpfTotal .gt) N sliceFits_S4x4096x64_S4x4096x8) = T at t1 t2 t4 htop
  constructor
  · intro e
    have t5 := read_soft _ _ _ t2 t4 t3
    rw [read_last _ _ t5]
    have ht : a.val * 4096 + b.val < 16384 := by omega
    refine quot_at _ (key a b) a b ⟨a.val * 4096 + b.val, ht⟩ rfl (fun e => ?_) e
    have ea : tokA ⟨a.val * 4096 + b.val, ht⟩ = a := Fin.ext (by show (a.val * 4096 + b.val) / 4096 = a.val; omega)
    have eb : tokB ⟨a.val * 4096 + b.val, ht⟩ = b := Fin.ext (by show (a.val * 4096 + b.val) % 4096 = b.val; omega)
    refine exp_at _ _ _ (key a b) (fun r => ?_) (fun r => ?_) e
    · rw [rows8_at, ea, eb]; exact (htop a b r).2
    · rw [rows8_at, ea, eb]; exact (htop a b r).1
  · intro r
    rw [mLast_keep _ (r := main_indices) (by decide), mSoft_keep _ (r := main_indices) (by decide), t1]
    exact (htop a b r).2

end Cert.RouterRef

end
-- ==== Proof.KResult.lean ====
/-
  The kernel's two results read at a place of the batches, over the four arguments.
-/
module

public import proofs.«01_k».proof.Proof.KValue
public import proofs.«01_k».proof.Proof.RefValue

@[expose] public section

set_option Elab.async false

noncomputable section

namespace Cert.RouterKernel

open Cert.KernelIdeal Cert.KernelIdeal.Gen Idealize.ShloMosaic Idealize.ShloMosaic.TcCoe Idealize.SL.Sem Cert.Router

variable (m : (ℓ : Loc nD τ sig) → Buf (Elt Ideal) ℓ) (c : Dev nD)
variable (x : FVec Ideal S4x4096x4096 .f32) (wr wn : FVec Ideal S64x4096 .f32) (b : FVec Ideal S64 .f32)

/-- The number of the token at a place of the batches. -/
def tokOf (p : Fin 4) (q : Fin 4096) : Fin 16384 := ⟨p.val * 4096 + q.val, by omega⟩

/-- The tokens in one list, at a token of the batches. -/
theorem flat_at (p : Fin 4) (q k : Fin 4096) :
    shapeCast S16384x4096 x shapeCasts_S4x4096x4096_S16384x4096 (ix2 (tokOf p q) k) = x (ix3 p q k) :=
  shapeCast_apply x _ (ix2 (tokOf p q) k) (ix3 p q k) (by
    rewrite [Shape.rowMajor_val_two, Shape.rowMajor_val_three]
    show (p.val * 4096 + q.val) * 4096 + k.val = _
    rfl)

/-- The first sixty-four rows of the stacked weights are the router's. -/
theorem upper_at (e : Fin 64) (k : Fin 4096) :
    concatenate S128x4096 0 [⟨S64x4096, wr⟩, ⟨S64x4096, wn⟩] concatenates_S64x4096_S64x4096_S128x4096_d0 (ix2 (⟨e.val, by omega⟩ : Fin 128) k) =
      wr (ix2 e k) :=
  concatenate_pair_apply_left (t := S128x4096) 0 wr wn concatenates_S64x4096_S64x4096_S128x4096_d0 (ix2 (⟨e.val, by omega⟩ : Fin 128) k) rfl (ix2 e k) fun a => match a with
    | ⟨0, _⟩ => rfl
    | ⟨1, _⟩ => rfl

/-- The last sixty-four are the noise's. -/
theorem lower_at (e : Fin 64) (k : Fin 4096) :
    concatenate S128x4096 0 [⟨S64x4096, wr⟩, ⟨S64x4096, wn⟩] concatenates_S64x4096_S64x4096_S128x4096_d0 (ix2 (⟨64 + e.val, by omega⟩ : Fin 128) k) =
      wn (ix2 e k) :=
  concatenate_pair_apply_right (t := S128x4096) 0 wr wn concatenates_S64x4096_S64x4096_S128x4096_d0 (ix2 (⟨64 + e.val, by omega⟩ : Fin 128) k) rfl rfl (ix2 e k) (fun a ha => match a, ha with
    | ⟨0, _⟩, ha => absurd rfl ha
    | ⟨1, _⟩, _ => rfl) (Nat.add_comm e.val 64)

/-- The bias in one column. -/
theorem column_at (e : Fin 64) : shapeCast S64x1 b shapeCasts_S64_S64x1 (ix2 e 0) = b (ix1 e) :=
  shapeCast_apply b _ (ix2 e 0) (ix1 e) (by
    rewrite [Shape.rowMajor_val_two, Shape.rowMajor_val_one]
    show e.val = e.val * 1 + 0
    omega)

/-- The kernel's noisy logits of a token are those of the reference. -/
theorem keyOf_eq (hx : m ((c : Thread nD τ).loc main_arg0) = x) (hr : m ((c : Thread nD τ).loc main_arg1) = wr)
    (hn : m ((c : Thread nD τ).loc main_arg2) = wn) (hb : m ((c : Thread nD τ).loc main_arg3) = b) (p : Fin 4) (q : Fin 4096) :
    keyOf m c (tokOf p q) = Cert.RouterRef.rowKey x wr wn b p q := by
  unfold keyOf
  rw [tokens_eq m c x hx, stacked_eq m c wr wn hr hn, biases_eq m c b hb]
  simp only [flat_at, upper_at, lower_at, column_at]
  rfl

/-- The first result, at a place: the probability of an expert. -/
theorem result5_at (p : Fin 4) (q : Fin 4096) (e : Fin 64) :
    Read.val_main_v5 (F := Ideal) (probsT m c) (ix3 p q e) = probOf (keyOf m c (tokOf p q)) e := by
  rw [Read.val_main_v5_apply, Read.val_main_v4_apply]
  have hi : Read.idx_main_v4 (Read.idx_main_v5 (ix3 p q e)) = ix2 e (tokOf p q) := by
    funext a
    apply Fin.ext
    match a with
    | ⟨0, _⟩ => show ((p.val * 4096 + q.val) * 64 + e.val) % 64 = e.val; omega
    | ⟨1, _⟩ => show ((p.val * 4096 + q.val) * 64 + e.val) / 64 = p.val * 4096 + q.val; omega
  rw [hi]
  rfl

/-- The second result, at a place: the word of a selected expert. -/
theorem result7_at (p : Fin 4) (q : Fin 4096) (r : Fin 8) :
    Read.val_main_v7 (F := Ideal) (picksT m c) (ix3 p q r) = BitVec.ofNat 32 (picks (keyOf m c (tokOf p q)) r.val).val := by
  rw [Read.val_main_v7_apply, Read.val_main_v6_apply]
  have hi : Read.idx_main_v6 (Read.idx_main_v7 (ix3 p q r)) = ix2 r (tokOf p q) := by
    funext a
    apply Fin.ext
    match a with
    | ⟨0, _⟩ => show ((p.val * 4096 + q.val) * 8 + r.val) % 8 = r.val; omega
    | ⟨1, _⟩ => show ((p.val * 4096 + q.val) * 8 + r.val) / 8 = p.val * 4096 + q.val; omega
  rw [hi]
  rfl

end Cert.RouterKernel

end
-- ==== Proof.Bounded.lean ====
/-
  The precondition read element by element: where it holds, the tokens and the router's weights are real numbers and the
  biases are above −∞.
-/
module

public import proofs.«01_k».proof.Pre_bounded
public import proofs.«01_k».proof.Proof.KSelect
public import Idealize.ShloMosaic.Lib.ReduceAll
public import Idealize.ShloMosaic.Lib.Affine

@[expose] public section

set_option Elab.async false

noncomputable section

namespace Cert.RouterBounded

open Cert.Pre_bounded Idealize.ShloMosaic Cert.Router

/-- The side conditions of the precondition's operations. -/
theorem facts : Cert.Pre_bounded.Facts where
  bcast_S_S4x4096x4096 := by decide
  reducesTo_S4x4096x4096_S_d0_1_2 := by decide
  h_S_ := by decide
  bcast_S_S64x4096 := by decide
  reducesTo_S64x4096_S_d0_1 := by decide
  bcast_S_S64 := by decide
  reducesTo_S64_S_d0 := by decide

/-- An extended real whose absolute value is below the infinity is a real number. -/
theorem real_of_abs (x : EReal) (h : max x (-x) < ⊤) : IsReal x := by
  induction x with
  | bot => simp at h
  | top => simp at h
  | coe r => exact ⟨r, rfl⟩

/-- The array's one comparison, read at an element. -/
theorem real_of_bit {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) : IsReal (a i) := by
  change BitVec.ofBool (decide (max (a i) (-(a i)) < Ideal.ofBits .f32 0x7F800000#32)) = 1#1 at h
  rw [Cert.RouterKernel.ofBits_pos_inf] at h
  refine real_of_abs _ ?_
  by_contra hn
  rw [decide_eq_false hn] at h
  exact absurd h (by decide)

/-- The biases' one comparison, read at an element. -/
theorem above_of_bit (b : FVec Ideal S64 .f32) (hb : S_.BroadcastsInDim S64 (![] : Fin 0 → Fin S64.rank)) (i : S64.Idx)
    (h : cmpf .ogt b (broadcastInDim S64 ![] hb (Host.negf (constant S_ .f32 0x7F800000#32))) i = 1#1) : ⊥ < b i := by
  change BitVec.ofBool (decide (-(Ideal.ofBits .f32 0x7F800000#32) < b i)) = 1#1 at h
  rw [Cert.RouterKernel.ofBits_pos_inf, EReal.neg_top] at h
  by_contra hn
  rw [decide_eq_false hn] at h
  exact absurd h (by decide)

/-- A scalar has one index. -/
instance : Subsingleton S_.Idx := ⟨fun a b => funext fun i => i.elim0⟩

/-- Where the precondition holds, the tokens and the router's weights are real numbers and the biases are above −∞. -/
theorem of_pre [Cert.Pre_bounded.Facts] (x : FVec Ideal S4x4096x4096 .f32) (wr wn : FVec Ideal S64x4096 .f32) (b : FVec Ideal S64 .f32)
    (h : Cert.Pre_bounded.fn (F := Ideal) x wr wn b = fun _ => 1#1) : (∀ i, IsReal (x i)) ∧ (∀ i, IsReal (wr i)) ∧ (∀ i, ⊥ < b i) := by
  have h0 := congrFun h (fun a => a.elim0)
  obtain ⟨h1, hb⟩ := IntOp.andi_eq_one.mp h0
  obtain ⟨hx, hr⟩ := IntOp.andi_eq_one.mp h1
  exact ⟨fun i => real_of_bit x _ i (Host.reduce_andi_all _ _ _ _ _ hx i), fun i => real_of_bit wr _ i (Host.reduce_andi_all _ _ _ _ _ hr i),
    fun i => above_of_bit b _ i (Host.reduce_andi_all _ _ _ _ _ hb i)⟩

end Cert.RouterBounded

end
-- ==== Proof.Algebraic.lean ====
/-
  The kernel and the reference end with equal results: on real tokens and router weights, and biases above −∞, both hold, at every place of the batches, the
  probabilities and the selected experts of that token's noisy logits.
-/
module

public import proofs.«01_k».proof.Defs
public import proofs.«01_k».proof.Proof.KResult
public import proofs.«01_k».proof.Proof.Bounded

@[expose] public section

set_option Elab.async false

noncomputable section

namespace Cert.RouterEqual

open Idealize.ShloMosaic Idealize.ShloMosaic.TcCoe Idealize.SL.Sem Idealize.ShloMosaic.StableHlo Cert.Router

/-- An index of a box is its three coordinates. -/
theorem exists_ix3 {n k l : ℕ} (i : Shape.Idx (⟨3, ![n, k, l]⟩ : Shape)) : ∃ (a : Fin n) (b : Fin k) (d : Fin l), i = ix3 a b d :=
  ⟨i 0, i 1, i 2, funext fun a => match a with
    | ⟨0, _⟩ => rfl
    | ⟨1, _⟩ => rfl
    | ⟨2, _⟩ => rfl⟩

/-- On real tokens and router weights, and biases above −∞, the reference's two results are the kernel's. -/
theorem results_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (x : FVec Ideal Cert.KernelIdeal.S4x4096x4096 .f32) (wr wn : FVec Ideal Cert.KernelIdeal.S64x4096 .f32) (b : FVec Ideal Cert.KernelIdeal.S64 .f32)
    (hx : m ((c.tc : Thread Cert.KernelIdeal.nD Cert.KernelIdeal.τ).loc Cert.KernelIdeal.main_arg0) = x)
    (hr : m ((c.tc : Thread Cert.KernelIdeal.nD Cert.KernelIdeal.τ).loc Cert.KernelIdeal.main_arg1) = wr)
    (hn : m ((c.tc : Thread Cert.KernelIdeal.nD Cert.KernelIdeal.τ).loc Cert.KernelIdeal.main_arg2) = wn)
    (hb : m ((c.tc : Thread Cert.KernelIdeal.nD Cert.KernelIdeal.τ).loc Cert.KernelIdeal.main_arg3) = b)
    (vx : V (Proc.devRef .tc Cert.ReferenceIdeal.main_arg0) = x) (vr : V (Proc.devRef .tc Cert.ReferenceIdeal.main_arg1) = wr)
    (vn : V (Proc.devRef .tc Cert.ReferenceIdeal.main_arg2) = wn) (vb : V (Proc.devRef .tc Cert.ReferenceIdeal.main_arg3) = b)
    (rx : ∀ i, IsReal (x i)) (rr : ∀ i, IsReal (wr i)) (rb : ∀ i, ⊥ < b i) :
    (after Cert.RouterRef.ops V (Proc.devRef .tc Cert.ReferenceIdeal.main_v50) : FVec Ideal Cert.ReferenceIdeal.S4x4096x64 .f32) =
      Cert.KernelIdeal.Read.val_main_v5 (F := Ideal) (Cert.KernelIdeal.Value.reg_main_v3_0 m c)
    ∧ (after Cert.RouterRef.ops V (Proc.devRef .tc Cert.ReferenceIdeal.main_indices) : IVec Cert.ReferenceIdeal.S4x4096x8 32) =
      Cert.KernelIdeal.Read.val_main_v7 (F := Ideal) (Cert.KernelIdeal.Value.reg_main_v3_1 m c) := by
  have key := Cert.RouterKernel.keyOf_eq m c x wr wn b hx hr hn hb
  have ref := Cert.RouterRef.results_at V x wr wn b vx vr vn vb rx rr rb
  rw [Cert.RouterKernel.final3, Cert.RouterKernel.final4]
  constructor
  · funext i
    obtain ⟨p, q, e, rfl⟩ := exists_ix3 i
    exact ((ref p q).1 e).trans ((congrArg (probOf · e) (key p q).symm).trans (Cert.RouterKernel.result5_at m c p q e).symm)
  · funext i
    obtain ⟨p, q, r, rfl⟩ := exists_ix3 i
    exact ((ref p q).2 r).trans ((congrArg (fun k => BitVec.ofNat 32 (picks k r.val).val) (key p q).symm).trans
      (Cert.RouterKernel.result7_at m c p q r).symm)

attribute [local instance] Cert.KernelIdeal.Gen.facts Cert.ReferenceIdeal.Gen.facts Cert.RouterBounded.facts

/-- The kernel and the reference run from agreeing memories that meet the precondition, and end with equal results. -/
theorem algebraic : Cert.algebraic_KernelIdeal_ReferenceIdeal_pre_bounded := by
  intro m g m' g' hpre hargs
  refine ⟨fun c => Cert.KernelIdeal.Read.val_main_v5 (F := Ideal) (Cert.KernelIdeal.Value.reg_main_v3_0 m c),
    fun c => Cert.KernelIdeal.Read.val_main_v7 (F := Ideal) (Cert.KernelIdeal.Value.reg_main_v3_1 m c), Cert.KernelIdeal.Value.run m g, ?_⟩
  refine (θ_run _ _ _).mono (fun r hrun c => ?_) (Cert.RouterRef.run_ops m' g')
  obtain ⟨a0, a1, a2, a3⟩ := hargs c
  obtain ⟨rx, rr, rb⟩ := Cert.RouterBounded.of_pre _ _ _ _ (hpre c)
  obtain ⟨e5, e7⟩ := results_eq m c (launchContents m' c) _ _ _ _ rfl rfl rfl rfl a0 a1 a2 a3 rx rr rb
  obtain ⟨k0, k1, k2, k3⟩ := Cert.RouterRef.args_keep (launchContents m' c)
  exact ⟨(hrun c Cert.ReferenceIdeal.main_v50).trans e5, (hrun c Cert.ReferenceIdeal.main_indices).trans e7,
    (hrun c Cert.ReferenceIdeal.main_arg0).trans k0, (hrun c Cert.ReferenceIdeal.main_arg1).trans k1,
    (hrun c Cert.ReferenceIdeal.main_arg2).trans k2, (hrun c Cert.ReferenceIdeal.main_arg3).trans k3⟩

end Cert.RouterEqual

end
-- ==== Proof.lean ====
module

public import proofs.«01_k».proof.Defs
public import proofs.«01_k».proof.Proof.Gen.KernelIdeal.Run
public import proofs.«01_k».proof.Proof.Gen.KernelIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.RouterBounded.facts,
  fun m ρ _ => Cert.Kernel.Gen.frame m ρ,
  fun m ρ _ => Cert.KernelIdeal.Gen.frame m ρ,
  fun m ρ _ => Cert.KernelIdeal.Gen.frame m ρ,
  fun m ρ _ => Cert.RouterRef.quiescent m ρ,
  fun m ρ _ => Cert.RouterRef.quiescent m ρ,
  trivial,
  Cert.RouterEqual.algebraic⟩

end Cert.Proof

end
